-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_complete_graph [hPre_complete_graph : Cert.Pre_complete_graph.Facts] (m : (ℓ : Loc Cert.KernelIdeal.nD Cert.KernelIdeal.τ Cert.KernelIdeal.sig) → Buf (Elt Ideal) ℓ) : Prop :=
  ∀ c : Dev Cert.KernelIdeal.nD,
    (Cert.Pre_complete_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_complete_graph [hPre_complete_graph : Cert.Pre_complete_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_complete_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_complete_graph [hKernelIdeal : Cert.KernelIdeal.Facts] [hPre_complete_graph : Cert.Pre_complete_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_complete_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_complete_graph [hReferenceIdeal : Cert.ReferenceIdeal.Facts] [hPre_complete_graph : Cert.Pre_complete_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_complete_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_complete_graph [hKernelIdeal : Cert.KernelIdeal.Facts] [hReferenceIdeal : Cert.ReferenceIdeal.Facts] [hPre_complete_graph : Cert.Pre_complete_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_complete_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_complete_graph : Cert.Pre_complete_graph.Facts),
    quiescent_Kernel (hKernel := hKernel)
    ∧ quiescent_KernelIdeal (hKernelIdeal := hKernelIdeal)
    ∧ quiescent_KernelIdeal_pre_complete_graph (hKernelIdeal := hKernelIdeal) (hPre_complete_graph := hPre_complete_graph)
    ∧ quiescent_ReferenceIdeal (hReferenceIdeal := hReferenceIdeal)
    ∧ quiescent_ReferenceIdeal_pre_complete_graph (hReferenceIdeal := hReferenceIdeal) (hPre_complete_graph := hPre_complete_graph)
    ∧ preserves_Kernel_KernelIdeal
    ∧ algebraic_KernelIdeal_ReferenceIdeal_pre_complete_graph (hKernelIdeal := hKernelIdeal) (hReferenceIdeal := hReferenceIdeal) (hPre_complete_graph := hPre_complete_graph)
-- ==== Pre_complete_graph.lean ====
abbrev S1x512 : Shape := ⟨2, ![1, 512]⟩
abbrev S128x512x512 : Shape := ⟨3, ![128, 512, 512]⟩
abbrev S128x512 : Shape := ⟨2, ![128, 512]⟩
abbrev S512x512 : Shape := ⟨2, ![512, 512]⟩
abbrev S512 : Shape := ⟨1, ![512]⟩
abbrev S2x16256 : Shape := ⟨2, ![2, 16256]⟩
abbrev S16256 : Shape := ⟨1, ![16256]⟩
abbrev S1x16256 : Shape := ⟨2, ![1, 16256]⟩
abbrev S_ : Shape := ⟨0, ![]⟩

class Facts : Prop where
  slices_S2x16256_S1x16256_0_0 : S2x16256.Slices ![0, 0] S1x16256
  shapeCasts_S1x16256_S16256 : S1x16256.ShapeCasts S16256
  bcast_S_S16256 : S_.BroadcastsInDim S16256 (![] : Fin 0 → Fin S16256.rank)
  reducesTo_S16256_S_d0 : S16256.ReducesTo [0] S_
  h_S_ : 0 < S_.numel
  slices_S2x16256_S1x16256_1_0 : S2x16256.Slices ![1, 0] S1x16256

variable [Facts]

def fn_where {F : FTy → Type} [FloatOps F] (arg0 : IVec S16256 1) (arg1 : IVec S16256 32) (arg2 : IVec S16256 32) : IVec S16256 32 :=
  let v0 : IVec S16256 32 := select arg0 arg1 arg2
  v0

def fn_floor_divide {F : FTy → Type} [FloatOps F] (arg0 : IVec S16256 32) (arg1 : IVec S_ 32) : IVec S16256 32 :=
  let v0 : IVec S_ 32 := id arg1
  let v1 : IVec S16256 32 := broadcastInDim S16256 ![] bcast_S_S16256 v0
  let v2 : IVec S16256 32 := Host.divsi arg0 v1
  let v3 : IVec S16256 32 := signi arg0
  let v4 : IVec S_ 32 := signi v0
  let v5 : IVec S16256 32 := broadcastInDim S16256 ![] bcast_S_S16256 v4
  let v6 : IVec S16256 1 := cmpi .ne v3 v5
  let v7 : IVec S16256 32 := broadcastInDim S16256 ![] bcast_S_S16256 v0
  let v8 : IVec S16256 32 := Host.remsi arg0 v7
  let c : IVec S_ 32 := constantI S_ 32 0#32
  let v9 : IVec S16256 32 := broadcastInDim S16256 ![] bcast_S_S16256 c
  let v10 : IVec S16256 1 := cmpi .ne v8 v9
  let v11 : IVec S16256 1 := andi v6 v10
  let c_0 : IVec S_ 32 := constantI S_ 32 1#32
  let v12 : IVec S16256 32 := broadcastInDim S16256 ![] bcast_S_S16256 c_0
  let v13 : IVec S16256 32 := subi v2 v12
  let v14 : IVec S16256 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S16256 32) (arg1 : IVec S_ 32) : IVec S16256 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S16256 32 := broadcastInDim S16256 ![] bcast_S_S16256 v2
  let v4 : IVec S16256 32 := Host.remsi arg0 v3
  let c_1 : IVec S_ 32 := constantI S_ 32 0#32
  let v5 : IVec S16256 32 := broadcastInDim S16256 ![] bcast_S_S16256 c_1
  let v6 : IVec S16256 1 := cmpi .ne v4 v5
  let c_2 : IVec S_ 32 := constantI S_ 32 0#32
  let v7 : IVec S16256 32 := broadcastInDim S16256 ![] bcast_S_S16256 c_2
  let v8 : IVec S16256 1 := cmpi .slt v4 v7
  let c_3 : IVec S_ 32 := constantI S_ 32 0#32
  let v9 : IVec S_ 1 := cmpi .slt v2 c_3
  let v10 : IVec S16256 1 := broadcastInDim S16256 ![] bcast_S_S16256 v9
  let v11 : IVec S16256 1 := cmpi .ne v8 v10
  let v12 : IVec S16256 1 := andi v11 v6
  let v13 : IVec S16256 32 := broadcastInDim S16256 ![] bcast_S_S16256 v2
  let v14 : IVec S16256 32 := addi v4 v13
  let v15 : IVec S16256 32 := select v12 v14 v4
  v15

def fn {F : FTy → Type} [FloatOps F] (main_arg0 : FVec F S1x512 .f32) (main_arg1 : FVec F S128x512x512 .f32) (main_arg2 : FVec F S128x512 .f32) (main_arg3 : FVec F S512x512 .f32) (main_arg4 : FVec F S512 .f32) (main_arg5 : FVec F S512x512 .f32) (main_arg6 : FVec F S512 .f32) (main_arg7 : FVec F S512 .f32) (main_arg8 : FVec F S512 .f32) (main_arg9 : FVec F S512x512 .f32) (main_arg10 : FVec F S512 .f32) (main_arg11 : FVec F S512x512 .f32) (main_arg12 : FVec F S512 .f32) (main_arg13 : FVec F S512 .f32) (main_arg14 : FVec F S512 .f32) (main_arg15 : IVec S2x16256 32) : IVec S_ 1 :=
  let main_v0 : IVec S16256 32 := iotaInDim S16256 32 0
  let main_v1 : IVec S1x16256 32 := (extractStridedSlice S1x16256 ![0, 0] · slices_S2x16256_S1x16256_0_0) main_arg15
  let main_v2 : IVec S16256 32 := shapeCast S16256 main_v1 shapeCasts_S1x16256_S16256
  let main_c : IVec S_ 32 := constantI S_ 32 127#32
  let main_v3 : IVec S16256 32 := fn_floor_divide (F := F) main_v0 main_c
  let main_v4 : IVec S16256 1 := cmpi .eq main_v2 main_v3
  let main_c_0 : IVec S_ 1 := constantI S_ 1 1#1
  let main_v5 : IVec S_ 1 := (fun x v => Host.reduce IntOp.andi x v reducesTo_S16256_S_d0 h_S_) main_v4 main_c_0
  let main_v6 : IVec S1x16256 32 := (extractStridedSlice S1x16256 ![1, 0] · slices_S2x16256_S1x16256_1_0) main_arg15
  let main_v7 : IVec S16256 32 := shapeCast S16256 main_v6 shapeCasts_S1x16256_S16256
  let main_c_1 : IVec S_ 32 := constantI S_ 32 127#32
  let main_v8 : IVec S16256 32 := fn_remainder (F := F) main_v0 main_c_1
  let main_c_2 : IVec S_ 32 := constantI S_ 32 1#32
  let main_v9 : IVec S16256 32 := broadcastInDim S16256 ![] bcast_S_S16256 main_c_2
  let main_v10 : IVec S16256 32 := addi main_v8 main_v9
  let main_v11 : IVec S16256 1 := cmpi .eq main_v7 main_v10
  let main_c_3 : IVec S_ 1 := constantI S_ 1 1#1
  let main_v12 : IVec S_ 1 := (fun x v => Host.reduce IntOp.andi x v reducesTo_S16256_S_d0 h_S_) main_v11 main_c_3
  let main_v13 : IVec S_ 1 := andi main_v5 main_v12
  main_v13
-- ==== Kernel.lean ====
abbrev S1x512 : Shape := ⟨2, ![1, 512]⟩
abbrev S128x512x512 : Shape := ⟨3, ![128, 512, 512]⟩
abbrev S128x512 : Shape := ⟨2, ![128, 512]⟩
abbrev S512x512 : Shape := ⟨2, ![512, 512]⟩
abbrev S512 : Shape := ⟨1, ![512]⟩
abbrev S2x16256 : Shape := ⟨2, ![2, 16256]⟩
abbrev S8x512x512 : Shape := ⟨3, ![8, 512, 512]⟩
abbrev S8x512 : Shape := ⟨2, ![8, 512]⟩
abbrev S1x512x512 : Shape := ⟨3, ![1, 512, 512]⟩

abbrev nBuf : Space → Nat
  | .hbm => 25
  | .vmem => 18
  | .smem => 0
  | _ => 0

abbrev bufTy : (tb : Table) → Fin (tcTables nBuf tb) → BufTy
  | .hbm, ⟨0, _⟩ => ⟨S1x512, .f32⟩
  | .hbm, ⟨1, _⟩ => ⟨S128x512x512, .f32⟩
  | .hbm, ⟨2, _⟩ => ⟨S128x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S2x16256, .i32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S128x512, .f32⟩
  | .local _ .vmem, ⟨0, _⟩ => ⟨S1x512, .f32⟩
  | .local _ .vmem, ⟨1, _⟩ => ⟨S8x512x512, .f32⟩
  | .local _ .vmem, ⟨2, _⟩ => ⟨S8x512x512, .f32⟩
  | .local _ .vmem, ⟨3, _⟩ => ⟨S128x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S128x512, .f32⟩
  | .local _ .vmem, ⟨17, _⟩ => ⟨S128x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_v0 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c8_i32 : BitVec 32 := 8#32
  let v2 : BitVec 32 := Scalar.muli arg0 c8_i32
  let v3 : Index := Scalar.indexCast v2
  let c0_1 : Index := 0#32
  ![v3.toNat, 0]
def k0_cond1 (i : grid0.Coords) : BitVec 1 :=
  let arg0 : BitVec 32 := BitVec.ofNat 32 (i 0).val
  let c15_i32 : BitVec 32 := 15#32
  let v46 : BitVec 1 := Scalar.cmpi .eq arg0 c15_i32
  let v47 : BitVec 32 := Scalar.extui v46
  let c0_i32 : BitVec 32 := 0#32
  let v48 : BitVec 1 := Scalar.cmpi .ne v47 c0_i32
  v48

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S1x512 : Shape := ⟨2, ![1, 512]⟩
abbrev S128x512x512 : Shape := ⟨3, ![128, 512, 512]⟩
abbrev S128x512 : Shape := ⟨2, ![128, 512]⟩
abbrev S512x512 : Shape := ⟨2, ![512, 512]⟩
abbrev S512 : Shape := ⟨1, ![512]⟩
abbrev S2x16256 : Shape := ⟨2, ![2, 16256]⟩
abbrev S_ : Shape := ⟨0, ![]⟩
abbrev S1x16256 : Shape := ⟨2, ![1, 16256]⟩
abbrev S16256 : Shape := ⟨1, ![16256]⟩
abbrev S16256x1 : Shape := ⟨2, ![16256, 1]⟩
abbrev S16256x512 : Shape := ⟨2, ![16256, 512]⟩

abbrev nBuf : Space → Nat
  | .hbm => 174
  | .vmem => 0
  | .smem => 0
  | _ => 0

abbrev hbmTy0_0 (i : Nat) : BufTy := match i % 128 with
  | 0 => ⟨S1x512, .f32⟩
  | 1 => ⟨S128x512x512, .f32⟩
  | 2 => ⟨S128x512, .f32⟩
  | 3 => ⟨S512x512, .f32⟩
  | 4 => ⟨S512, .f32⟩
  | 5 => ⟨S512x512, .f32⟩
  | 6 => ⟨S512, .f32⟩
  | 7 => ⟨S512, .f32⟩
  | 8 => ⟨S512, .f32⟩
  | 9 => ⟨S512x512, .f32⟩
  | 10 => ⟨S512, .f32⟩
  | 11 => ⟨S512x512, .f32⟩
  | 12 => ⟨S512, .f32⟩
  | 13 => ⟨S512, .f32⟩
  | 14 => ⟨S512, .f32⟩
  | 15 => ⟨S2x16256, .i32⟩
  | 16 => ⟨S512, .f32⟩
  | 17 => ⟨S128x512, .f32⟩
  | 18 => ⟨S128x512, .f32⟩
  | 19 => ⟨S_, .f32⟩
  | 20 => ⟨S128x512, .f32⟩
  | 21 => ⟨S128x512, .f32⟩
  | 22 => ⟨S1x16256, .i32⟩
  | 23 => ⟨S16256, .i32⟩
  | 24 => ⟨S1x16256, .i32⟩
  | 25 => ⟨S16256, .i32⟩
  | 26 => ⟨S_, .i32⟩
  | 27 => ⟨S16256, .i32⟩
  | 28 => ⟨S16256, .i1⟩
  | 29 => ⟨S_, .i32⟩
  | 30 => ⟨S16256, .i32⟩
  | 31 => ⟨S16256, .i32⟩
  | 32 => ⟨S16256, .i32⟩
  | 33 => ⟨S16256x1, .i32⟩
  | 34 => ⟨S16256x512, .f32⟩
  | 35 => ⟨S_, .f32⟩
  | 36 => ⟨S128x512, .f32⟩
  | 37 => ⟨S16256x1, .i32⟩
  | 38 => ⟨S128x512, .f32⟩
  | 39 => ⟨S128x512, .f32⟩
  | 40 => ⟨S512x512, .f32⟩
  | 41 => ⟨S128x512, .f32⟩
  | 42 => ⟨S1x512, .f32⟩
  | 43 => ⟨S128x512, .f32⟩
  | 44 => ⟨S128x512, .f32⟩
  | 45 => ⟨S_, .f32⟩
  | 46 => ⟨S128x512, .f32⟩
  | 47 => ⟨S128x512, .f32⟩
  | 48 => ⟨S512x512, .f32⟩
  | 49 => ⟨S128x512, .f32⟩
  | 50 => ⟨S1x512, .f32⟩
  | 51 => ⟨S128x512, .f32⟩
  | 52 => ⟨S128x512, .f32⟩
  | 53 => ⟨S_, .f32⟩
  | 54 => ⟨S128x512, .f32⟩
  | 55 => ⟨S128x512, .f32⟩
  | 56 => ⟨S_, .f32⟩
  | 57 => ⟨S512, .f32⟩
  | 58 => ⟨S_, .f32⟩
  | 59 => ⟨S512, .f32⟩
  | 60 => ⟨S512, .f32⟩
  | 61 => ⟨S_, .i32⟩
  | 62 => ⟨S_, .f32⟩
  | 63 => ⟨S512, .f32⟩
  | 64 => ⟨S1x512, .f32⟩
  | 65 => ⟨S_, .f32⟩
  | 66 => ⟨S1x512, .f32⟩
  | 67 => ⟨S1x512, .f32⟩
  | 68 => ⟨S128x512, .f32⟩
  | 69 => ⟨S128x512, .f32⟩
  | 70 => ⟨S128x512, .f32⟩
  | 71 => ⟨S_, .f32⟩
  | 72 => ⟨S_, .f32⟩
  | 73 => ⟨S_, .f32⟩
  | 74 => ⟨S_, .f32⟩
  | 75 => ⟨S512, .f32⟩
  | 76 => ⟨S512, .f32⟩
  | 77 => ⟨S512, .f32⟩
  | 78 => ⟨S_, .f32⟩
  | 79 => ⟨S_, .i1⟩
  | 80 => ⟨S_, .f32⟩
  | 81 => ⟨S_, .f32⟩
  | 82 => ⟨S512, .f32⟩
  | 83 => ⟨S512, .f32⟩
  | 84 => ⟨S1x512, .f32⟩
  | 85 => ⟨S128x512, .f32⟩
  | 86 => ⟨S128x512, .f32⟩
  | 87 => ⟨S_, .f32⟩
  | 88 => ⟨S512, .f32⟩
  | 89 => ⟨S512, .f32⟩
  | 90 => ⟨S512, .f32⟩
  | 91 => ⟨S1x512, .f32⟩
  | 92 => ⟨S128x512, .f32⟩
  | 93 => ⟨S128x512, .f32⟩
  | 94 => ⟨S1x512, .f32⟩
  | 95 => ⟨S128x512, .f32⟩
  | 96 => ⟨S128x512, .f32⟩
  | 97 => ⟨S1x512, .f32⟩
  | 98 => ⟨S128x512, .f32⟩
  | 99 => ⟨S128x512, .f32⟩
  | 100 => ⟨S_, .i32⟩
  | 101 => ⟨S16256, .i32⟩
  | 102 => ⟨S16256, .i1⟩
  | 103 => ⟨S_, .i32⟩
  | 104 => ⟨S16256, .i32⟩
  | 105 => ⟨S16256, .i32⟩
  | 106 => ⟨S16256, .i32⟩
  | 107 => ⟨S16256x1, .i32⟩
  | 108 => ⟨S16256x512, .f32⟩
  | 109 => ⟨S_, .f32⟩
  | 110 => ⟨S128x512, .f32⟩
  | 111 => ⟨S16256x1, .i32⟩
  | 112 => ⟨S128x512, .f32⟩
  | 113 => ⟨S128x512, .f32⟩
  | 114 => ⟨S512x512, .f32⟩
  | 115 => ⟨S128x512, .f32⟩
  | 116 => ⟨S1x512, .f32⟩
  | 117 => ⟨S128x512, .f32⟩
  | 118 => ⟨S128x512, .f32⟩
  | 119 => ⟨S_, .f32⟩
  | 120 => ⟨S128x512, .f32⟩
  | 121 => ⟨S128x512, .f32⟩
  | 122 => ⟨S512x512, .f32⟩
  | 123 => ⟨S128x512, .f32⟩
  | 124 => ⟨S1x512, .f32⟩
  | 125 => ⟨S128x512, .f32⟩
  | 126 => ⟨S128x512, .f32⟩
  | 127 => ⟨S_, .f32⟩
  | _ => ⟨S1x512, .f32⟩

abbrev hbmTy0_1 (i : Nat) : BufTy := match i % 128 with
  | 0 => ⟨S128x512, .f32⟩
  | 1 => ⟨S128x512, .f32⟩
  | 2 => ⟨S_, .f32⟩
  | 3 => ⟨S512, .f32⟩
  | 4 => ⟨S_, .f32⟩
  | 5 => ⟨S512, .f32⟩
  | 6 => ⟨S512, .f32⟩
  | 7 => ⟨S_, .i32⟩
  | 8 => ⟨S_, .f32⟩
  | 9 => ⟨S512, .f32⟩
  | 10 => ⟨S1x512, .f32⟩
  | 11 => ⟨S_, .f32⟩
  | 12 => ⟨S1x512, .f32⟩
  | 13 => ⟨S1x512, .f32⟩
  | 14 => ⟨S128x512, .f32⟩
  | 15 => ⟨S128x512, .f32⟩
  | 16 => ⟨S128x512, .f32⟩
  | 17 => ⟨S_, .f32⟩
  | 18 => ⟨S_, .f32⟩
  | 19 => ⟨S_, .f32⟩
  | 20 => ⟨S_, .f32⟩
  | 21 => ⟨S512, .f32⟩
  | 22 => ⟨S512, .f32⟩
  | 23 => ⟨S512, .f32⟩
  | 24 => ⟨S_, .f32⟩
  | 25 => ⟨S_, .i1⟩
  | 26 => ⟨S_, .f32⟩
  | 27 => ⟨S_, .f32⟩
  | 28 => ⟨S512, .f32⟩
  | 29 => ⟨S512, .f32⟩
  | 30 => ⟨S1x512, .f32⟩
  | 31 => ⟨S128x512, .f32⟩
  | 32 => ⟨S128x512, .f32⟩
  | 33 => ⟨S_, .f32⟩
  | 34 => ⟨S512, .f32⟩
  | 35 => ⟨S512, .f32⟩
  | 36 => ⟨S512, .f32⟩
  | 37 => ⟨S1x512, .f32⟩
  | 38 => ⟨S128x512, .f32⟩
  | 39 => ⟨S128x512, .f32⟩
  | 40 => ⟨S1x512, .f32⟩
  | 41 => ⟨S128x512, .f32⟩
  | 42 => ⟨S128x512, .f32⟩
  | 43 => ⟨S1x512, .f32⟩
  | 44 => ⟨S128x512, .f32⟩
  | 45 => ⟨S128x512, .f32⟩
  | _ => ⟨S1x512, .f32⟩

abbrev hbmTy (i : Nat) : BufTy := match i / 128 with
  | 0 => hbmTy0_0 i
  | 1 => hbmTy0_1 i
  | _ => ⟨S1x512, .f32⟩

abbrev bufTy : (tb : Table) → Fin (tcTables nBuf tb) → BufTy
  | .hbm, ⟨i, _⟩ => hbmTy i
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_call0_cst : Ref sig .tc := ⟨.hbm, 19, rfl⟩
abbrev main_call0_v0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call2_cst : Ref sig .tc := ⟨.hbm, 53, rfl⟩
abbrev main_call2_v0 : Ref sig .tc := ⟨.hbm, 54, rfl⟩
abbrev main_v30 : Ref sig .tc := ⟨.hbm, 55, rfl⟩
abbrev main_cst_1 : Ref sig .tc := ⟨.hbm, 56, rfl⟩
abbrev main_v31 : Ref sig .tc := ⟨.hbm, 57, rfl⟩
abbrev main_cst_2 : Ref sig .tc := ⟨.hbm, 58, rfl⟩
abbrev main_v32 : Ref sig .tc := ⟨.hbm, 59, rfl⟩
abbrev main_v33 : Ref sig .tc := ⟨.hbm, 60, rfl⟩
abbrev main_c_3 : Ref sig .tc := ⟨.hbm, 61, rfl⟩
abbrev main_call3_cst : Ref sig .tc := ⟨.hbm, 62, rfl⟩
abbrev main_call3_v0 : Ref sig .tc := ⟨.hbm, 63, rfl⟩
abbrev main_call3_v1 : Ref sig .tc := ⟨.hbm, 64, rfl⟩
abbrev main_call3_cst_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_cst_1 : Ref sig .tc := ⟨.hbm, 72, rfl⟩
abbrev main_call3_v8 : Ref sig .tc := ⟨.hbm, 73, rfl⟩
abbrev main_call3_cst_2 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_cst_3 : Ref sig .tc := ⟨.hbm, 78, rfl⟩
abbrev main_call3_v12 : Ref sig .tc := ⟨.hbm, 79, rfl⟩
abbrev main_call3_cst_4 : Ref sig .tc := ⟨.hbm, 80, rfl⟩
abbrev main_call3_call0_v0 : Ref sig .tc := ⟨.hbm, 81, rfl⟩
abbrev main_call3_call0_v1 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_cst_4 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_c_5 : Ref sig .tc := ⟨.hbm, 100, rfl⟩
abbrev main_v50 : Ref sig .tc := ⟨.hbm, 101, rfl⟩
abbrev main_v51 : Ref sig .tc := ⟨.hbm, 102, rfl⟩
abbrev main_c_6 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_7 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_call4_cst : Ref sig .tc := ⟨.hbm, 119, rfl⟩
abbrev main_call4_v0 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_call5_cst : Ref sig .tc := ⟨.hbm, 127, rfl⟩
abbrev main_call5_v0 : Ref sig .tc := ⟨.hbm, 128, rfl⟩
abbrev main_v72 : Ref sig .tc := ⟨.hbm, 129, rfl⟩
abbrev main_cst_8 : Ref sig .tc := ⟨.hbm, 130, rfl⟩
abbrev main_v73 : Ref sig .tc := ⟨.hbm, 131, rfl⟩
abbrev main_cst_9 : Ref sig .tc := ⟨.hbm, 132, rfl⟩
abbrev main_v74 : Ref sig .tc := ⟨.hbm, 133, rfl⟩
abbrev main_v75 : Ref sig .tc := ⟨.hbm, 134, rfl⟩
abbrev main_c_10 : Ref sig .tc := ⟨.hbm, 135, rfl⟩
abbrev main_call6_cst : Ref sig .tc := ⟨.hbm, 136, rfl⟩
abbrev main_call6_v0 : Ref sig .tc := ⟨.hbm, 137, rfl⟩
abbrev main_call6_v1 : Ref sig .tc := ⟨.hbm, 138, rfl⟩
abbrev main_call6_cst_0 : Ref sig .tc := ⟨.hbm, 139, rfl⟩
abbrev main_call6_v2 : Ref sig .tc := ⟨.hbm, 140, rfl⟩
abbrev main_call6_v3 : Ref sig .tc := ⟨.hbm, 141, rfl⟩
abbrev main_call6_v4 : Ref sig .tc := ⟨.hbm, 142, rfl⟩
abbrev main_call6_v5 : Ref sig .tc := ⟨.hbm, 143, rfl⟩
abbrev main_call6_v6 : Ref sig .tc := ⟨.hbm, 144, rfl⟩
abbrev main_call6_v7 : Ref sig .tc := ⟨.hbm, 145, rfl⟩
abbrev main_call6_cst_1 : Ref sig .tc := ⟨.hbm, 146, rfl⟩
abbrev main_call6_v8 : Ref sig .tc := ⟨.hbm, 147, rfl⟩
abbrev main_call6_cst_2 : Ref sig .tc := ⟨.hbm, 148, rfl⟩
abbrev main_call6_v9 : Ref sig .tc := ⟨.hbm, 149, rfl⟩
abbrev main_call6_v10 : Ref sig .tc := ⟨.hbm, 150, rfl⟩
abbrev main_call6_v11 : Ref sig .tc := ⟨.hbm, 151, rfl⟩
abbrev main_call6_cst_3 : Ref sig .tc := ⟨.hbm, 152, rfl⟩
abbrev main_call6_v12 : Ref sig .tc := ⟨.hbm, 153, rfl⟩
abbrev main_call6_cst_4 : Ref sig .tc := ⟨.hbm, 154, rfl⟩
abbrev main_call6_call0_v0 : Ref sig .tc := ⟨.hbm, 155, rfl⟩
abbrev main_call6_call0_v1 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_cst_11 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.VecWindow

/-! The kernel's body run once, at a grid point: what it leaves in the scratch and in the output window, by name. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eight rows one grid point computes, from its blocks of the parent feature, the weights and the whole bias array. -/
def pointRows (i : grid0.Coords) (x0 : Vec F S1x512 .f32) (x1 : Vec F S8x512x512 .f32) (x2 : Vec F S128x512 .f32) : FVec F S8x512 .f32 :=
  k0_pay1 (k0_pay10 x0) (VecWindow.window x2 (k0_off1 i) S8x512.size (k0_off1_inb i))
    (k0_pay11 x0 (VecWindow.window x1 ![0, 0, 0] S1x512x512.size inb_S8x512x512_S1x512x512_0_0_0))
    (k0_pay12 x0 (VecWindow.window x1 ![1, 0, 0] S1x512x512.size inb_S8x512x512_S1x512x512_1_0_0))
    (k0_pay13 x0 (VecWindow.window x1 ![2, 0, 0] S1x512x512.size inb_S8x512x512_S1x512x512_2_0_0))
    (k0_pay14 x0 (VecWindow.window x1 ![3, 0, 0] S1x512x512.size inb_S8x512x512_S1x512x512_3_0_0))
    (k0_pay15 x0 (VecWindow.window x1 ![4, 0, 0] S1x512x512.size inb_S8x512x512_S1x512x512_4_0_0))
    (k0_pay16 x0 (VecWindow.window x1 ![5, 0, 0] S1x512x512.size inb_S8x512x512_S1x512x512_5_0_0))
    (VecWindow.window x1 ![6, 0, 0] S1x512x512.size inb_S8x512x512_S1x512x512_6_0_0)
    (VecWindow.window x1 ![7, 0, 0] S1x512x512.size inb_S8x512x512_S1x512x512_7_0_0)

/-- The scratch after one grid point: the point's eight rows put over what it held. -/
def nextScratch (i : grid0.Coords) (x0 : Vec F S1x512 .f32) (x1 : Vec F S8x512x512 .f32) (x2 g : Vec F S128x512 .f32) : Vec F S128x512 .f32 :=
  VecWindow.put g (k0_off1 i) S8x512.size (pointRows i x0 x1 x2)

/-- What the last grid point stores, from the complete scratch and the two layers' weights. -/
def tail (g : Vec F S128x512 .f32) (x3 : Vec F S512x512 .f32) (x4 : Vec F S1x512 .f32) (x5 : Vec F S512x512 .f32) (x6 x7 x8 : Vec F S1x512 .f32) (x9 : Vec F S512x512 .f32) (x10 : Vec F S1x512 .f32) (x11 : Vec F S512x512 .f32) (x12 x13 x14 : Vec F S1x512 .f32) : Vec F S128x512 .f32 :=
  k0_pay2 (k0_pay9 (k0_pay3 (F := F)) (k0_pay4 g x3 x4 x5 x6) (k0_pay5 x7) (k0_pay6 x8) (k0_pay7 g x3 x4 x5 x6) (k0_pay8 (F := F)) x9 x10 x11 x12)
    (Scalar.ofBits .f32 0x00000000#32) x13 x14

/-- A load of a window through a whole reference that holds `x` reads that window of `x`. -/
theorem load_window {s : Shape} {e : EltTy} {m : Memref sig .tc .vmem s e} (h : m.IsWhole) (x : Vec F s e) {off size : Fin s.rank → ℕ}
    (inb : ∀ a, off a + size a ≤ s.size a) :
    View.readAt (Elt F) m.view (Rect.unit off size inb).toLoadRect (h.unread x) = VecWindow.window x off size inb := by
  rw [View.readAt_unit _ _ inb rfl inb, h.read_unread]

/-- A load of everything through a whole reference that holds `x` reads `x`. -/
theorem load_whole {s : Shape} {e : EltTy} {m : Memref sig .tc .vmem s e} (h : m.IsWhole) (x : Vec F s e) {off : Fin s.rank → ℕ}
    (inb : ∀ a, off a + s.size a ≤ s.size a) :
    View.readAt (Elt F) m.view (Rect.unit off s.size inb).toLoadRect (h.unread x) = x := by
  rw [View.readAt_full, h.read_unread]

set_option maxHeartbeats 1000000 in
/-- The body at a grid point before the last: from the blocks it reads and the scratch, it leaves the blocks alone and
    the scratch with the point's eight rows put in. -/
theorem runA (c : Dev nD) (i : grid0.Coords) (arg1 : Memref sig .tc .vmem S1x512 .f32) (harg1 : arg1.IsWhole) (arg2 : Memref sig .tc .vmem S8x512x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S128x512 .f32) (harg16 : arg16.IsWhole) (arg17 : Memref sig .tc .vmem S128x512 .f32) (harg17 : arg17.IsWhole)
    (hc0 : ¬ k0_cond1 i = 1#1)
    (x0 : Vec F S1x512 .f32) (x1 : Vec F S8x512x512 .f32) (x2 : Vec F S128x512 .f32) (g : Vec F S128x512 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg17 fullShare g
            ∗ (iprop(owns (c : Thread nD τ) arg1 fullShare x0 ∗ owns (c : Thread nD τ) arg2 fullShare x1 ∗ owns (c : Thread nD τ) arg3 fullShare x2 ∗ owns (c : Thread nD τ) arg17 fullShare (nextScratch i x0 x1 x2 g)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0__kernel_eq_skeleton]; unfold cc0__kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg17.eq_unread hfs0
    sl_exec (disch := first | sl_exact hc0)
    sl_step
    iapply Hk
    isplitl [H0]; iexists _; isplitr; ipureintro; exact harg1.read_unread _; iexact H0
    isplitl [H1]; iexists _; isplitr; ipureintro; exact harg2.read_unread _; iexact H1
    isplitl [H2]; iexists _; isplitr; ipureintro; exact harg3.read_unread _; iexact H2
    iexists _; isplitr
    rotate_left
    · iexact HS0
    · ipureintro
      sl_unfold_run_names
      simp only [load_window harg2, load_whole harg1, load_window harg3]
      rw [View.read_writes_cons_put _ _ _ _ _ rfl, View.writes_nil, harg17.read_unread]
      rfl

set_option maxHeartbeats 1000000 in
/-- The body at the last grid point: the scratch gets its last eight rows, and the output window is left holding the
    two layers applied to the completed scratch. -/
theorem runB (c : Dev nD) (i : grid0.Coords) (arg1 : Memref sig .tc .vmem S1x512 .f32) (harg1 : arg1.IsWhole) (arg2 : Memref sig .tc .vmem S8x512x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S128x512 .f32) (harg16 : arg16.IsWhole) (arg17 : Memref sig .tc .vmem S128x512 .f32) (harg17 : arg17.IsWhole)
    (hc0 : k0_cond1 i = 1#1)
    (x0 : Vec F S1x512 .f32) (x1 : Vec F S8x512x512 .f32) (x2 : Vec F S128x512 .f32) (x3 : Vec F S512x512 .f32) (x4 : Vec F S1x512 .f32) (x5 : Vec F S512x512 .f32) (x6 : Vec F S1x512 .f32) (x7 : Vec F S1x512 .f32) (x8 : Vec F S1x512 .f32) (x9 : Vec F S512x512 .f32) (x10 : Vec F S1x512 .f32) (x11 : Vec F S512x512 .f32) (x12 : Vec F S1x512 .f32) (x13 : Vec F S1x512 .f32) (x14 : Vec F S1x512 .f32)
    (o g : Vec F S128x512 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare o ∗ owns (c : Thread nD τ) arg17 fullShare g ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (tail (nextScratch i x0 x1 x2 g) x3 x4 x5 x6 x7 x8 x9 x10 x11 x12 x13 x14) ∗ owns (c : Thread nD τ) arg17 fullShare (nextScratch i x0 x1 x2 g)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0__kernel_eq_skeleton]; unfold cc0__kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hfs0
    sl_exec (disch := first | sl_exact hc0)
    sl_step
    iapply Hk
    isplitl [H0]; iexists _; isplitr; ipureintro; exact harg1.read_unread _; iexact H0
    isplitl [H1]; iexists _; isplitr; ipureintro; exact harg2.read_unread _; iexact H1
    isplitl [H2]; iexists _; isplitr; ipureintro; exact harg3.read_unread _; iexact H2
    isplitl [H3]; iexists _; isplitr; ipureintro; exact harg4.read_unread _; iexact H3
    isplitl [H4]; iexists _; isplitr; ipureintro; exact harg5.read_unread _; iexact H4
    isplitl [H5]; iexists _; isplitr; ipureintro; exact harg6.read_unread _; iexact H5
    isplitl [H6]; iexists _; isplitr; ipureintro; exact harg7.read_unread _; iexact H6
    isplitl [H7]; iexists _; isplitr; ipureintro; exact harg8.read_unread _; iexact H7
    isplitl [H8]; iexists _; isplitr; ipureintro; exact harg9.read_unread _; iexact H8
    isplitl [H9]; iexists _; isplitr; ipureintro; exact harg10.read_unread _; iexact H9
    isplitl [H10]; iexists _; isplitr; ipureintro; exact harg11.read_unread _; iexact H10
    isplitl [H11]; iexists _; isplitr; ipureintro; exact harg12.read_unread _; iexact H11
    isplitl [H12]; iexists _; isplitr; ipureintro; exact harg13.read_unread _; iexact H12
    isplitl [H13]; iexists _; isplitr; ipureintro; exact harg14.read_unread _; iexact H13
    isplitl [H14]; iexists _; isplitr; ipureintro; exact harg15.read_unread _; iexact H14
    isplitl [H15]
    · iexists _; isplitr
      rotate_left
      · iexact H15
      · ipureintro
        sl_unfold_run_names
        refine (View.read_writes_full _ _ _ _ _).trans ?_
        simp only [load_whole harg1, load_whole harg4, load_whole harg5, load_whole harg6, load_whole harg7, load_whole harg8, load_whole harg9, load_whole harg10, load_whole harg11, load_whole harg12, load_whole harg13, load_whole harg14, load_whole harg15, load_window harg2, load_window harg3, View.readAt_full arg17.view]
        rw [View.read_writes_cons_put _ _ _ _ _ rfl, View.writes_nil, harg17.read_unread]
        rfl
    iexists _; isplitr
    rotate_left
    · iexact HS0
    · ipureintro
      sl_unfold_run_names
      simp only [load_window harg2, load_whole harg1, load_window harg3]
      rw [View.read_writes_cons_put _ _ _ _ _ rfl, View.writes_nil, harg17.read_unread]
      rfl

end Cert.KernelIdeal.Body
-- ==== Proof.Run.lean ====
module

public import proofs.«01_k».proof.Proof.Body
public import Idealize.ShloMosaic.Lib.Pointwise.Index

/-! The kernel's run: what the scratch holds between grid points, what the last point writes back, and the whole run's
final state. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch, filled eight rows a point -/

/-- The grid's one coordinate at point `t` is `t`. -/
theorem coord_val (t : Fin cfg0.N) : (grid0.coords t 0).val = t.val := by
  have ht : t.val < 16 := Nat.lt_of_lt_of_eq t.isLt N_0
  have h : (grid0.coords t 0).val = t.val / 1 % 16 := Pipeline.Grid.coords_val t 0 (by decide) rfl
  omega

/-- The last-point condition holds at point 15 only. -/
theorem cond_last : ∀ t : Fin cfg0.N, k0_cond1 (grid0.coords t) = 1#1 ↔ t.val = 15 := fun t => by
  have ht : t.val < 16 := Nat.lt_of_lt_of_eq t.isLt N_0
  simp only [k0_cond1, coord_val t]
  revert ht; generalize t.val = n; revert n; decide +kernel

/-- The grid point that computes row `y 0` of the scratch. -/
def rowPoint (y : S128x512.Idx) : Fin cfg0.N :=
  ⟨(y 0).val / 8, by
    have h : (y 0).val < 128 := (y 0).isLt
    rw [show cfg0.N = 16 from N_0]; omega⟩

/-- Where that row lies among the eight rows the point computes. -/
def rowIn (y : S128x512.Idx) : S8x512.Idx := ix2 ⟨(y 0).val % 8, Nat.mod_lt _ (by decide)⟩ (y 1)

/-- The scratch once every point has run: each row as its own point computes it. -/
def children (c : Dev nD) : Vec F S128x512 .f32 := fun y =>
  pointRows (grid0.coords (rowPoint y)) (iblk m c 0 (rowPoint y)) (iblk m c 1 (rowPoint y)) (iblk m c 2 (rowPoint y)) (rowIn y)

/-- The first `8 * n` rows of `g` are the children's. -/
def FilledTo (c : Dev nD) (n : ℕ) (g : Vec F S128x512 .f32) : Prop := ∀ y : S128x512.Idx, (y 0).val < 8 * n → g y = children m c y

/-- One grid point extends the filled part by its eight rows. -/
theorem filled_step (c : Dev nD) (t : Fin cfg0.N) (g : Vec F S128x512 .f32) (h : FilledTo m c t.val g) :
    FilledTo m c (t.val + 1) (nextScratch (grid0.coords t) (iblk m c 0 t) (iblk m c 1 t) (iblk m c 2 t) g) := by
  intro y hy
  have ht : t.val < 16 := Nat.lt_of_lt_of_eq t.isLt N_0
  have hoff0 : k0_off1 (grid0.coords t) 0 = 8 * t.val := by rw [k0_off1_eq, ← coord_val t]; rfl
  have hoff1 : k0_off1 (grid0.coords t) 1 = 0 := by rw [k0_off1_eq]; rfl
  have hs0 : S8x512.size 0 = 8 := rfl
  have hs1 : S8x512.size 1 = 512 := rfl
  have hy1 : (y 1).val < 512 := (y 1).isLt
  unfold nextScratch VecWindow.put
  by_cases hin : 8 * t.val ≤ (y 0).val
  · have hp : rowPoint y = t := Fin.ext (show (y 0).val / 8 = t.val by omega)
    rw [dif_pos (by
      intro a; fin_cases a
      · show k0_off1 _ 0 ≤ (y 0).val ∧ (y 0).val < k0_off1 _ 0 + S8x512.size 0
        rw [hoff0, hs0]; omega
      · show k0_off1 _ 1 ≤ (y 1).val ∧ (y 1).val < k0_off1 _ 1 + S8x512.size 1
        rw [hoff1, hs1]; omega)]
    unfold children
    rw [hp]
    congr 1
    funext a; apply Fin.ext; rw [Rect.unitLocal_val]
    fin_cases a
    · show (y 0).val - k0_off1 _ 0 = (y 0).val % 8
      rw [hoff0]; omega
    · show (y 1).val - k0_off1 _ 1 = (y 1).val
      rw [hoff1]; omega
  · rw [dif_neg (by
      intro hall
      have := (hall 0).1
      rw [hoff0] at this; exact hin this)]
    exact h y (by omega)

/-- A scratch filled to all sixteen points' rows is the children. -/
theorem filled_all (c : Dev nD) (g : Vec F S128x512 .f32) (h : FilledTo m c 16 g) : g = children m c :=
  funext fun y => h y (by have h : (y 0).val < 128 := (y 0).isLt; omega)

/-! ## The pipeline's proof data -/

/-- What the last point writes back: the two layers applied to the children. -/
def result (c : Dev nD) (t : Fin cfg0.N) : Vec F S128x512 .f32 :=
  tail (children m c) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t)

/-- The scratch buffer, whole. -/
abbrev scratch : Memref sig .tc .vmem S128x512 .f32 := Memref.whole cc0_scratch0

/-- The pipeline's proof data on core `c`: each input window keeps its block, the output window is left at the result,
    and between points the scratch is filled to the rows of the points that have run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => result m c t
    | ⟨_ + 16, h⟩ => absurd h (Nat.not_lt.2 (Nat.le_add_left _ _))
  Φ t := iprop((∃ g, ⌜FilledTo m c t.val g⌝ ∗ owns (c : Thread nD τ) scratch fullShare g) ∗ ∃ r, prngReg c r)
  q _ := fullShare
  owed _ := 0

/-- The proof data's arrays are the contents the region is entered with. -/
theorem A_eq (c : Dev nD) (w : Fin cfg0.W) : (dats m 0 c).A w = V m c (Pipeline.arrRef spec0 w) := by
  dsimp only [dats]

/-- The output window is left at the result. -/
theorem after_out (c : Dev nD) (t : Fin cfg0.N) : (dats m 0 c).after 15 t = result m c t := by dsimp only [dats]

/-- The invariant between points, spelled out. -/
theorem inv_eq (c : Dev nD) (t : Fin (cfg0.N + 1)) : (dats m 0 c).Φ t
    = iprop((∃ g, ⌜FilledTo m c t.val g⌝ ∗ owns (c : Thread nD τ) scratch fullShare g) ∗ ∃ r, prngReg c r) := by
  dsimp only [dats]

/-- What the launch hands over and takes back: the scratch at some contents, and the generator register. -/
theorem launch_inv (c : Dev nD) : (Pipeline.ΦA spec0 c : sProp 𝕄)
    = iprop((∃ g, owns (c : Thread nD τ) scratch fullShare g) ∗ ∃ r, prngReg c r) := by
  unfold Pipeline.ΦA; rw [scopedRest0_eq]; simp only [scratch, owns_whole]; rfl

/-- No input window is ever idle. -/
theorem live_in (w : Fin 16) (hw : w ≠ 15) (i : grid0.Coords) : cfg0.idle w i = false := by
  fin_cases w <;> first | rfl | exact absurd rfl hw

/-- The body leaves an input window at what the proof data says. -/
theorem leaves_in (c : Dev nD) (w : Fin 16) (hw : w ≠ 15) (t : Fin cfg0.N) : (dats m 0 c).leavesExact w t
    = owns (c : Thread nD τ) ((cfg0.win w).stage (cfg0.slots t w)) fullShare ((dats m 0 c).after w t) := by
  unfold Dat.leavesExact; rw [live_in w hw]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 3200000 in
/-- The body's obligation at any point: the inputs hold their blocks; before the last point the eight rows go into the
    scratch and the output window is handed back as found; at the last point the result is left in it too. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => by dsimp only [dats]), before0_1_of m (dats m 0 c) (A_eq m c 1) (fun _ => by dsimp only [dats]), before0_2_of m (dats m 0 c) (A_eq m c 2) (fun _ => by dsimp only [dats]), before0_3_of m (dats m 0 c) (A_eq m c 3) (fun _ => by dsimp only [dats]), before0_4_of m (dats m 0 c) (A_eq m c 4) (fun _ => by dsimp only [dats]), before0_5_of m (dats m 0 c) (A_eq m c 5) (fun _ => by dsimp only [dats]), before0_6_of m (dats m 0 c) (A_eq m c 6) (fun _ => by dsimp only [dats]), before0_7_of m (dats m 0 c) (A_eq m c 7) (fun _ => by dsimp only [dats]), before0_8_of m (dats m 0 c) (A_eq m c 8) (fun _ => by dsimp only [dats]), before0_9_of m (dats m 0 c) (A_eq m c 9) (fun _ => by dsimp only [dats]), before0_10_of m (dats m 0 c) (A_eq m c 10) (fun _ => by dsimp only [dats]), before0_11_of m (dats m 0 c) (A_eq m c 11) (fun _ => by dsimp only [dats]), before0_12_of m (dats m 0 c) (A_eq m c 12) (fun _ => by dsimp only [dats]), before0_13_of m (dats m 0 c) (A_eq m c 13) (fun _ => by dsimp only [dats]), before0_14_of m (dats m 0 c) (A_eq m c 14) (fun _ => by dsimp only [dats])]
  simp only [leaves_in m c 0 (by decide) t, leaves_in m c 1 (by decide) t, leaves_in m c 2 (by decide) t, leaves_in m c 3 (by decide) t, leaves_in m c 4 (by decide) t, leaves_in m c 5 (by decide) t, leaves_in m c 6 (by decide) t, leaves_in m c 7 (by decide) t, leaves_in m c 8 (by decide) t, leaves_in m c 9 (by decide) t, leaves_in m c 10 (by decide) t, leaves_in m c 11 (by decide) t, leaves_in m c 12 (by decide) t, leaves_in m c 13 (by decide) t, leaves_in m c 14 (by decide) t]
  rw [show (dats m 0 c).owesAt () t.succ = (dats m 0 c).owesAt () t.castSucc from rfl, inv_eq, inv_eq]
  simp only [Fin.val_castSucc, Fin.val_succ]
  iintro ⟨⟨⟨%g, %hg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hstep := filled_step m c t g hg
  by_cases h0 : t.val = 15
  · rw [show (dats m 0 c).leavesExact 15 t = owns (c : Thread nD τ) (st0_15 t) fullShare (result m c t) from by
      unfold Dat.leavesExact
      rw [show cfg0.idle 15 (cfg0.grid.coords t) = false from by
        show (!(k0_cond1 (grid0.coords t) == 1#1)) = false
        rw [(cond_last t).mpr h0]; rfl]
      rw [after_out]]
    iapply ((runB c (grid0.coords t) _ _ _ _ _ _ _ _ _ _ _ _ _ _ _ _ _ _ _ _ _ _ _ _ _ _ _ _ _ _ _ _ _ _ ((cond_last t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ g) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS]; · iexact HS
    iintro ⟨H0, H1, H2, H3, H4, H5, H6, H7, H8, H9, H10, H11, H12, H13, H14, H15, HS⟩
    isplitl [HS Hg]
    · isplitl [HS]
      · iexists _; isplitr
        rotate_left
        · iexact HS
        · ipureintro; exact hstep
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    unfold result
    rw [← filled_all m c _ (by rw [h0] at hstep; exact hstep)]
    iexact H15
  · have hc : ¬ k0_cond1 (grid0.coords t) = 1#1 := fun h => h0 ((cond_last t).mp h)
    rw [(dats m 0 c).leavesExact_idle 15 t (by
        show (!(k0_cond1 (grid0.coords t) == 1#1)) = true
        simpa using hc)
      (by
        have hf := flush0_15 t
        have ht : t.val < 16 := Nat.lt_of_lt_of_eq t.isLt N_0
        rcases hb : (cfg0.win 15).flush t with _ | _
        · rfl
        · exact absurd (hf.mp hb) (by omega))]
    iapply ((runA c (grid0.coords t) _ _ _ _ _ _ _ _ _ _ _ _ _ _ _ _ _ _ _ _ _ _ _ _ _ _ _ _ _ _ _ _ _ _ hc (iblk m c 0 t) (iblk m c 1 t) (iblk m c 2 t) g) Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr
        rotate_left
        · iexact HS
        · ipureintro; exact hstep
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists _; iexact H15

/-- The body table's row at point `t`'s slots is the body as the body obligation spells it. -/
theorem body_row (t : Fin cfg0.N) :
    defs₀ (F := F) .tc cfg0.body (cfg0.bodyArgs t (cfg0.slots t)) = bodyAt0 t := by
  unfold defs₀; rw [Defs.onTc_tc]

/-- The body obligation of the pipeline rule, at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

-- the launch theorem's implicit arguments are found by unifying its conclusion with this one
set_option backward.isDefEq.respectTransparency.types false in
/-- Every run ends, with each window's array at what the proof data says, every other buffer as the region found it, and
    every semaphore counter at zero. -/
theorem run_post : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [inv_eq, launch_inv]
      iintro ⟨⟨%g, HS⟩, Hg⟩
      isplitl [HS]
      · iexists g; isplitr
        · ipureintro; intro y hy; exact absurd hy (Nat.not_lt_zero _)
        · iexact HS
      · iexact Hg)
    (hout := fun c => by
      rw [inv_eq, launch_inv]
      iintro ⟨⟨%g, -, HS⟩, Hg⟩
      isplitl [HS]
      · iexists g; iexact HS
      · iexact Hg)

end Cert.KernelIdeal.Body
-- ==== Proof.KernelFrame.lean ====
/- The frame of the kernel on floats. The idealized kernel is the same text, so the run of the idealized kernel, which is stated for any floats, is the
   kernel's own. -/
module

public import proofs.«01_k».proof.Proof.Gen.Kernel
public import proofs.«01_k».proof.Proof.Gen.KernelIdeal
public import proofs.«01_k».proof.Proof.Run
public import proofs.«01_k».proof.Defs
public import Idealize.ShloMosaic.Lib.Claim

@[expose] public section

set_option maxRecDepth 16384

noncomputable section

namespace Cert.Kernel.Same

open Idealize.ShloMosaic Idealize.ShloMosaic.TcCoe Idealize.SL.Sem

variable {F : FTy → Type} [FloatOps F]

/-- The body of the kernel is the idealized kernel's. -/
theorem body_eq : @Cert.Kernel.cc0__kernel F _ Cert.Kernel.Gen.facts = @Cert.KernelIdeal.cc0__kernel F _ Cert.KernelIdeal.Gen.facts := by
  unfold Cert.Kernel.cc0__kernel Cert.KernelIdeal.cc0__kernel; rfl

set_option maxHeartbeats 4000000 in
/-- The two kernels' tables of bodies are equal. -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  rw [body_eq]
  generalize @Cert.KernelIdeal.cc0__kernel F _ Cert.KernelIdeal.Gen.facts = k
  refine congrArg Defs.onTc ?_
  funext l a
  obtain ⟨n, hn⟩ := l
  obtain rfl : n = 0 := Nat.lt_one_iff.mp hn
  obtain ⟨t, s⟩ := a
  rfl

/-- The definitions that the two programs call, the pipeline's among them, are equal. -/
theorem defs_eq : @Cert.Kernel.defs F _ Cert.Kernel.Gen.facts = @Cert.KernelIdeal.defs F _ Cert.KernelIdeal.Gen.facts :=
  congrArg (Pipeline.defs Cert.KernelIdeal.pcfgs) defs₀_eq

/-- What holds at the end of every run of the idealized kernel's text holds at the end of every run of the kernel's. -/
theorem run_of (m : (ℓ : Loc Cert.KernelIdeal.nD Cert.KernelIdeal.τ Cert.KernelIdeal.sig) → Buf (Elt F) ℓ) (g : Dev Cert.KernelIdeal.nD → PrngReg)
    (Q : _ → Prop) (h : θ_run (Cert.KernelIdeal.defs (F := F)) (onTc (τ := Cert.KernelIdeal.τ) (Cert.KernelIdeal.main (F := F))) ⟨m, fun _ => 0, g⟩ Q) :
    θ_run (Cert.Kernel.defs (F := F)) (onTc (τ := Cert.Kernel.τ) (Cert.Kernel.main (F := F))) ⟨m, fun _ => 0, g⟩ Q := by
  have e := defs_eq (F := F)
  have : θ_run (@Cert.Kernel.defs F _ Cert.Kernel.Gen.facts) (onTc (τ := Cert.KernelIdeal.τ) (Cert.KernelIdeal.main (F := F))) ⟨m, fun _ => 0, g⟩ Q := by
    rw [e]; exact h
  exact this

end Cert.Kernel.Same
-- ==== Proof.Blocks.lean ====
module

public import proofs.«01_k».proof.Proof.Run
public import Idealize.ShloMosaic.Lib.Pipeline.ValueKit
public import Idealize.ShloMosaic.Lib.Claim

/-! Every window's block as an array of the program's arguments, and the result array after the run. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat Cfg Window)

variable {F : FTy → Type} [FloatOps F]

variable (m : (ℓ : Loc nD τ sig) → Buf (Elt F) ℓ) (ρ : Dev nD → PrngReg)

/-- The weights' window moves with the point; every other window stays at the array's start. -/
theorem index_weights : ∀ t : Fin grid0.N, win0_1.index t = ![t.val, 0, 0] := by decide +kernel

/-- The parent feature's block is its array. -/
theorem block0 (c : Dev nD) (t : Fin cfg0.N) : iblk m c 0 t = m ((c : Thread nD τ).loc main_arg0) := by
  have e : ∀ t : Fin grid0.N, win0_0.index t = ![0, 0] := by decide +kernel
  funext y
  idx_vars y
  blk_ext [iblk, V, e t]

/-- The children's weights at a point are the eight matrices from eight times the point on. -/
theorem block1 (c : Dev nD) (t : Fin cfg0.N) (a : Fin 8) (b d : Fin 512) (r : Fin 128) (hr : r.val = 8 * t.val + a.val) :
    iblk m c 1 t (ix3 a b d) = m ((c : Thread nD τ).loc main_arg1) (ix3 r b d) := by
  blk_ext [iblk, V, index_weights t]

/-- The children's biases: the block is the array. -/
theorem block2 (c : Dev nD) (t : Fin cfg0.N) : iblk m c 2 t = m ((c : Thread nD τ).loc main_arg2) := by
  have e : ∀ t : Fin grid0.N, win0_2.index t = ![0, 0] := by decide +kernel
  funext y
  idx_vars y
  blk_ext [iblk, V, e t]

/-- The first layer's first matrix: the block is the array. -/
theorem block3 (c : Dev nD) (t : Fin cfg0.N) : iblk m c 3 t = m ((c : Thread nD τ).loc main_arg3) := by
  have e : ∀ t : Fin grid0.N, win0_3.index t = ![0, 0] := by decide +kernel
  funext y
  idx_vars y
  blk_ext [iblk, V, e t]

/-- The first layer's first bias: the block is the vector as a row. -/
theorem block4 (c : Dev nD) (t : Fin cfg0.N) (b : Fin 512) : iblk m c 4 t (ix2 0 b) = m ((c : Thread nD τ).loc main_arg4) (ix1 b) := by
  have e : ∀ t : Fin grid0.N, win0_4.index t = ![0, 0] := by decide +kernel
  blk_point [iblk, V, e t]

/-- The first layer's second matrix: the block is the array. -/
theorem block5 (c : Dev nD) (t : Fin cfg0.N) : iblk m c 5 t = m ((c : Thread nD τ).loc main_arg5) := by
  have e : ∀ t : Fin grid0.N, win0_5.index t = ![0, 0] := by decide +kernel
  funext y
  idx_vars y
  blk_ext [iblk, V, e t]

/-- The first layer's second bias: the block is the vector as a row. -/
theorem block6 (c : Dev nD) (t : Fin cfg0.N) (b : Fin 512) : iblk m c 6 t (ix2 0 b) = m ((c : Thread nD τ).loc main_arg6) (ix1 b) := by
  have e : ∀ t : Fin grid0.N, win0_6.index t = ![0, 0] := by decide +kernel
  blk_point [iblk, V, e t]

/-- The first layer's scale: the block is the vector as a row. -/
theorem block7 (c : Dev nD) (t : Fin cfg0.N) (b : Fin 512) : iblk m c 7 t (ix2 0 b) = m ((c : Thread nD τ).loc main_arg7) (ix1 b) := by
  have e : ∀ t : Fin grid0.N, win0_7.index t = ![0, 0] := by decide +kernel
  blk_point [iblk, V, e t]

/-- The first layer's shift: the block is the vector as a row. -/
theorem block8 (c : Dev nD) (t : Fin cfg0.N) (b : Fin 512) : iblk m c 8 t (ix2 0 b) = m ((c : Thread nD τ).loc main_arg8) (ix1 b) := by
  have e : ∀ t : Fin grid0.N, win0_8.index t = ![0, 0] := by decide +kernel
  blk_point [iblk, V, e t]

/-- The second layer's first matrix: the block is the array. -/
theorem block9 (c : Dev nD) (t : Fin cfg0.N) : iblk m c 9 t = m ((c : Thread nD τ).loc main_arg9) := by
  have e : ∀ t : Fin grid0.N, win0_9.index t = ![0, 0] := by decide +kernel
  funext y
  idx_vars y
  blk_ext [iblk, V, e t]

/-- The second layer's first bias: the block is the vector as a row. -/
theorem block10 (c : Dev nD) (t : Fin cfg0.N) (b : Fin 512) : iblk m c 10 t (ix2 0 b) = m ((c : Thread nD τ).loc main_arg10) (ix1 b) := by
  have e : ∀ t : Fin grid0.N, win0_10.index t = ![0, 0] := by decide +kernel
  blk_point [iblk, V, e t]

/-- The second layer's second matrix: the block is the array. -/
theorem block11 (c : Dev nD) (t : Fin cfg0.N) : iblk m c 11 t = m ((c : Thread nD τ).loc main_arg11) := by
  have e : ∀ t : Fin grid0.N, win0_11.index t = ![0, 0] := by decide +kernel
  funext y
  idx_vars y
  blk_ext [iblk, V, e t]

/-- The second layer's second bias: the block is the vector as a row. -/
theorem block12 (c : Dev nD) (t : Fin cfg0.N) (b : Fin 512) : iblk m c 12 t (ix2 0 b) = m ((c : Thread nD τ).loc main_arg12) (ix1 b) := by
  have e : ∀ t : Fin grid0.N, win0_12.index t = ![0, 0] := by decide +kernel
  blk_point [iblk, V, e t]

/-- The second layer's scale: the block is the vector as a row. -/
theorem block13 (c : Dev nD) (t : Fin cfg0.N) (b : Fin 512) : iblk m c 13 t (ix2 0 b) = m ((c : Thread nD τ).loc main_arg13) (ix1 b) := by
  have e : ∀ t : Fin grid0.N, win0_13.index t = ![0, 0] := by decide +kernel
  blk_point [iblk, V, e t]

/-- The second layer's shift: the block is the vector as a row. -/
theorem block14 (c : Dev nD) (t : Fin cfg0.N) (b : Fin 512) : iblk m c 14 t (ix2 0 b) = m ((c : Thread nD τ).loc main_arg14) (ix1 b) := by
  have e : ∀ t : Fin grid0.N, win0_14.index t = ![0, 0] := by decide +kernel
  blk_point [iblk, V, e t]

/-- After the run the result array is what the last grid point stores. -/
theorem out_array (c : Dev nD) : (dats m 0 c).arrAt 15 cfg0.N = result m c t0_15 := by
  have e : ∀ t : Fin grid0.N, win0_15.index t = ![0, 0] := by decide +kernel
  refine (dats m 0 c).arrAt_eq_of_covers 15 _ (by decide +kernel) fun t hf y => ?_
  have ht : t = t0_15 := Fin.ext (by
    have := (flush0_15 t).mp hf
    have : t.val < 16 := Nat.lt_of_lt_of_eq t.isLt N_0
    show t.val = 15; omega)
  subst ht
  blk_simp
  rw [after_out]
  refine congrArg _ ?_
  idx_vars y
  blk_ext [e t0_15]

/-- A run ends with every semaphore counter at zero and, on every device, the result array holding what the last grid point stores. -/
theorem value_run : θ_run defs (onTc (τ := τ) (main (F := F))) ⟨m, fun _ => 0, ρ⟩ (fun r =>
    (∀ c : Dev nD, r.2.mem ((c.tc : Thread nD τ).loc main_v0) = result m c t0_15) ∧ r.2.sem = fun _ => 0) :=
  θ_run_mono (run_post m ρ) fun r h => ⟨fun c => ((h.1 c).1 15).trans (out_array m c), h.2⟩

end Cert.KernelIdeal.Body
-- ==== Proof.Layers.lean ====
module

public import Idealize.ShloMosaic.Lib.Pointwise

/-! The network as plain functions of row and column over the extended reals: the children, one graph layer, and the law
by which a product with a reciprocal square root is a quotient by the square root. Both programs are read as these. -/

@[expose] public section

noncomputable section

namespace Cert.Graph

open Idealize.ShloMosaic

/-- A feature table: one row per child, one column per feature. -/
abbrev Table := Fin 128 → Fin 512 → EReal

/-- The number of rows, as both programs spell it. -/
def rows : EReal := Ideal.ofBits .f32 0x43000000#32

/-- The small constant that both programs add to a variance. -/
def eps : EReal := Ideal.ofBits .f32 0x3727C5AC#32

/-- The children: row `r` is the parent feature under `r`'s own weights and bias, cut off below at zero. -/
def children (pf : Fin 512 → EReal) (W : Fin 128 → Fin 512 → Fin 512 → EReal) (b : Table) : Table :=
  fun r j => max (∑ k, pf k * W r j k + b r j) 0

/-- A child with what it receives over the graph's edges: every child but the first receives the sum of all rows. -/
def gather (x : Table) : Table := fun r j => x r j + if r.val = 0 then 0 else ∑ q, x q j

/-- Each row under one matrix (its rows the outputs) and a bias. -/
def affine (W : Fin 512 → Fin 512 → EReal) (b : Fin 512 → EReal) (x : Table) : Table := fun r j => ∑ k, x r k * W j k + b j

/-- Every entry cut off below at zero. -/
def pos (x : Table) : Table := fun r j => max (x r j) 0

/-- A column's mean. -/
def mean (x : Table) (j : Fin 512) : EReal := Ideal.div (∑ q, x q j) rows

/-- An entry less its column's mean. -/
def dev (x : Table) : Table := fun r j => x r j - mean x j

/-- A column's variance: the mean of its squared deviations. -/
def variance (x : Table) (j : Fin 512) : EReal := Ideal.div (∑ q, dev x q j * dev x q j) rows

/-- Each column brought to mean zero and variance one, then scaled and shifted. -/
def standardize (g be : Fin 512 → EReal) (x : Table) : Table := fun r j =>
  Ideal.div (dev x r j) (Ideal.sqrt (variance x j + eps)) * g j + be j

/-- One graph layer: gather, two matrices each followed by the cut at zero, and the normalization. -/
def layer (W : Fin 512 → Fin 512 → EReal) (b : Fin 512 → EReal) (W' : Fin 512 → Fin 512 → EReal) (b' g be : Fin 512 → EReal)
    (x : Table) : Table :=
  standardize g be (pos (affine W' b' (pos (affine W b (gather x)))))

/-- The whole network: the children through two graph layers. -/
def network (pf : Fin 512 → EReal) (W : Fin 128 → Fin 512 → Fin 512 → EReal) (b : Table)
    (W1 : Fin 512 → Fin 512 → EReal) (b1 : Fin 512 → EReal) (W1' : Fin 512 → Fin 512 → EReal) (b1' g1 be1 : Fin 512 → EReal)
    (W2 : Fin 512 → Fin 512 → EReal) (b2 : Fin 512 → EReal) (W2' : Fin 512 → Fin 512 → EReal) (b2' g2 be2 : Fin 512 → EReal) : Table :=
  layer W2 b2 W2' b2' g2 be2 (layer W1 b1 W1' b1' g1 be1 (children pf W b))

/-- The row count is one hundred and twenty-eight. -/
theorem rows_eq : rows = ((128 : ℝ) : EReal) := by
  unfold rows; simp [Ideal.ofBits, Ideal.ieee]; rw [← EReal.coe_mul]; norm_num

/-- The added constant is above zero. -/
theorem eps_pos : 0 < eps := by
  unfold eps; simp [Ideal.ofBits, Ideal.ieee]; rw [← EReal.coe_mul]; exact_mod_cast (by positivity : (0 : ℝ) < 10995116 * (2 ^ 40)⁻¹)

/-- A square is not negative, at the infinities too. -/
theorem mul_self_nonneg (x : EReal) : 0 ≤ x * x := by
  induction x with
  | bot => simp
  | top => simp
  | coe r => exact_mod_cast _root_.mul_self_nonneg r

/-- A variance is not negative. -/
theorem variance_nonneg (x : Table) (j : Fin 512) : 0 ≤ variance x j := by
  unfold variance
  rw [rows_eq, Ideal.div_coe (by norm_num)]
  exact mul_nonneg (Finset.sum_nonneg fun q _ => mul_self_nonneg _) (by exact_mod_cast (by norm_num : (0 : ℝ) ≤ 1 / 128))

/-- What a variance plus the constant is: above zero. -/
theorem variance_add_eps_pos (x : Table) (j : Fin 512) : 0 < variance x j + eps :=
  lt_of_lt_of_le eps_pos (by simpa using add_le_add_left (variance_nonneg x j) eps)

/-- A product with the reciprocal square root of a positive number is the quotient by its square root. -/
theorem mul_rsqrt (x v : EReal) (hv : 0 < v) : x * Ideal.rsqrt v = Ideal.div x (Ideal.sqrt v) := by
  induction v with
  | bot => simp at hv
  | top => simp [Ideal.div]
  | coe r =>
    have hr : 0 < r := by exact_mod_cast hv
    have hs : Real.sqrt r ≠ 0 := (Real.sqrt_pos.mpr hr).ne'
    rw [Ideal.rsqrt_coe, Ideal.sqrt_coe, if_neg hr.le.not_gt, if_neg hr.ne', if_neg hr.le.not_gt, Ideal.div_coe hs, one_div]

/-- The standardized columns by the reciprocal root, which exists as the variance with its constant is above zero. -/
theorem standardize_eq (g be : Fin 512 → EReal) (x : Table) : standardize g be x = fun r j =>
    dev x r j * Ideal.rsqrt (variance x j + eps) * g j + be j := by
  funext r j
  rw [mul_rsqrt _ _ (variance_add_eps_pos x j)]
  rfl

end Cert.Graph
-- ==== Proof.KernelValue.lean ====
module

public import proofs.«01_k».proof.Proof.Blocks
public import proofs.«01_k».proof.Proof.Layers

/-! What the kernel's result is, entry by entry, over the extended reals: the network of the program's arguments. -/

@[expose] public section

set_option maxRecDepth 16384

noncomputable section

namespace Cert.KernelIdeal.Body

open Cert.KernelIdeal Cert.KernelIdeal.Gen
open Cert.Graph (pos affine gather standardize layer network)
open Idealize.ShloMosaic Idealize.ShloMosaic.TcCoe Idealize.ShloMosaic.Tactic

/-- The mask is zero on the first row and one on the others. -/
theorem mask_at (r : Fin 128) (j : Fin 512) : k0_pay3 (F := Ideal) (ix2 r j) = if r.val = 0 then 0 else 1 := by
  have h : ∀ r : Fin 128, (BitVec.setWidth 32 (IntOp.cmpi .sgt (BitVec.ofNat 32 r.val) 0#32)).toInt = if r.val = 0 then 0 else 1 := by decide +kernel
  pointwise [k0_pay3]
  show (((BitVec.setWidth 32 (IntOp.cmpi .sgt (BitVec.ofNat 32 r.val) 0#32)).toInt : ℝ) : EReal) = _
  rw [h r]
  split <;> simp

/-- A product with the mask keeps every row but the first. -/
theorem mask_mul (r : Fin 128) (j : Fin 512) (s : EReal) : k0_pay3 (F := Ideal) (ix2 r j) * s = if r.val = 0 then 0 else s := by
  rw [mask_at]; split <;> simp

/-- The first layer up to its normalization. -/
theorem first_half (g x3 x4 x5 x6) (r : Fin 128) (j : Fin 512) : k0_pay4 (F := Ideal) g x3 x4 x5 x6 (ix2 r j) =
    pos (affine (fun a k => x5 (ix2 a k)) (fun a => x6 (ix2 0 a)) (pos (affine (fun a k => x3 (ix2 a k)) (fun a => x4 (ix2 0 a))
      (gather fun q a => g (ix2 q a))))) r j := by
  pointwise [k0_pay4]
  simp only [mask_mul]
  rfl

/-- The column sums that the first normalization starts from. -/
theorem first_sums (g x3 x4 x5 x6) (j : Fin 512) : k0_pay7 (F := Ideal) g x3 x4 x5 x6 (ix2 0 j) =
    ∑ q : Fin 128, k0_pay4 (F := Ideal) g x3 x4 x5 x6 (ix2 q j) := by
  pointwise [k0_pay7]

/-- The first layer's normalization, then the second layer up to its last cut at zero. -/
theorem middle (a x7 x8 s x9 x10 x11 x12) (hs : ∀ j, s (ix2 0 j) = ∑ q : Fin 128, a (ix2 q j)) (r : Fin 128) (j : Fin 512) :
    k0_pay9 (F := Ideal) k0_pay3 a x7 x8 s k0_pay8 x9 x10 x11 x12 (ix2 r j) =
      affine (fun a k => x11 (ix2 a k)) (fun a => x12 (ix2 0 a)) (pos (affine (fun a k => x9 (ix2 a k)) (fun a => x10 (ix2 0 a))
        (gather (standardize (fun a => x7 (ix2 0 a)) (fun a => x8 (ix2 0 a)) fun q k => a (ix2 q k))))) r j := by
  rw [Cert.Graph.standardize_eq]
  pointwise [k0_pay9, k0_pay8]
  simp only [hs, mask_mul]
  rfl

/-- The last cut at zero and the second layer's normalization. -/
theorem last_part (g x13 x14) (r : Fin 128) (j : Fin 512) : k0_pay2 (F := Ideal) g (Scalar.ofBits .f32 0x00000000#32) x13 x14 (ix2 r j) =
    standardize (fun a => x13 (ix2 0 a)) (fun a => x14 (ix2 0 a)) (pos fun q a => g (ix2 q a)) r j := by
  rw [Cert.Graph.standardize_eq]
  pointwise [k0_pay2]
  rfl

/-- What the last grid point stores: the two layers over the scratch. -/
theorem tail_at (g : Vec Ideal S128x512 .f32) (x3 x4 x5 x6 x7 x8 x9 x10 x11 x12 x13 x14) (r : Fin 128) (j : Fin 512) :
    tail (F := Ideal) g x3 x4 x5 x6 x7 x8 x9 x10 x11 x12 x13 x14 (ix2 r j) =
      layer (fun a k => x9 (ix2 a k)) (fun a => x10 (ix2 0 a)) (fun a k => x11 (ix2 a k)) (fun a => x12 (ix2 0 a))
        (fun a => x13 (ix2 0 a)) (fun a => x14 (ix2 0 a))
        (layer (fun a k => x3 (ix2 a k)) (fun a => x4 (ix2 0 a)) (fun a k => x5 (ix2 a k)) (fun a => x6 (ix2 0 a))
          (fun a => x7 (ix2 0 a)) (fun a => x8 (ix2 0 a)) fun q a => g (ix2 q a)) r j := by
  unfold tail
  rw [last_part]
  simp only [middle _ _ _ _ _ _ _ _ (first_sums g x3 x4 x5 x6), first_half]
  pointwise [k0_pay5, k0_pay6]
  rfl

/-- One of the eight matrices of a block, cut out as a block of one. -/
theorem matrix_window (x1 : Vec Ideal S8x512x512 .f32) (k : ℕ) (inb : ∀ a, (![k, 0, 0] : Fin 3 → ℕ) a + (![1, 512, 512] : Fin 3 → ℕ) a ≤ S8x512x512.size a)
    (r : Fin 8) (hk : r.val = k) (j x : Fin 512) : VecWindow.window x1 ![k, 0, 0] ![1, 512, 512] inb (ix3 0 j x) = x1 (ix3 r j x) := by
  subst hk
  refine congrArg x1 (funext fun a => Fin.ext ?_)
  match a with
  | ⟨0, _⟩ => rfl
  | ⟨1, _⟩ => show 0 + 1 * j.val = j.val; omega
  | ⟨2, _⟩ => show 0 + 1 * x.val = x.val; omega

/-- The rows that a grid point makes. -/
theorem pointRows_at (i x0 x1 x2) (r : Fin 8) (j : Fin 512) : pointRows (F := Ideal) i x0 x1 x2 (ix2 r j) =
    max (∑ k, x0 (ix2 0 k) * x1 (ix3 r j k) + VecWindow.window x2 (k0_off1 i) S8x512.size (k0_off1_inb i) (ix2 r j)) 0 := by
  pointwise [pointRows, k0_pay1, k0_pay10, k0_pay11, k0_pay12, k0_pay13, k0_pay14, k0_pay15, k0_pay16]
  fin_vals r with hk
  all_goals simp only [hk, Nat.reduceSub, Nat.reduceLT, ↓reduceDIte, matrix_window x1 _ _ r hk]; rfl

/-- The biases that a grid point reads are its own eight rows. -/
theorem bias_window (x2 : Vec Ideal S128x512 .f32) (t : Fin cfg0.N) (a : Fin 8) (r : Fin 128) (hr : r.val = 8 * t.val + a.val) (j : Fin 512) :
    VecWindow.window x2 (k0_off1 (grid0.coords t)) S8x512.size (k0_off1_inb (grid0.coords t)) (ix2 a j) = x2 (ix2 r j) := by
  have hoff0 : k0_off1 (grid0.coords t) 0 = 8 * t.val := by rw [k0_off1_eq, ← coord_val t]; rfl
  have hoff1 : k0_off1 (grid0.coords t) 1 = 0 := by rw [k0_off1_eq]; rfl
  refine congrArg x2 (funext fun b => Fin.ext ?_)
  match b with
  | ⟨0, _⟩ => show k0_off1 (grid0.coords t) 0 + 1 * a.val = r.val; omega
  | ⟨1, _⟩ => show k0_off1 (grid0.coords t) 1 + 1 * j.val = j.val; omega

variable (m : (ℓ : Loc nD τ sig) → Buf (Elt Ideal) ℓ)

/-- The complete scratch holds the children of the network. -/
theorem children_at (c : Dev nD) (r : Fin 128) (j : Fin 512) : children m c (ix2 r j) =
    Cert.Graph.children (fun k => m ((c : Thread nD τ).loc main_arg0) (ix2 0 k)) (fun r j k => m ((c : Thread nD τ).loc main_arg1) (ix3 r j k))
      (fun r j => m ((c : Thread nD τ).loc main_arg2) (ix2 r j)) r j := by
  have hr : r.val = 8 * (rowPoint (ix2 r j)).val + (⟨r.val % 8, Nat.mod_lt _ (by decide)⟩ : Fin 8).val := by
    show r.val = 8 * (r.val / 8) + r.val % 8; omega
  unfold children
  show pointRows _ _ _ _ (ix2 (⟨r.val % 8, Nat.mod_lt _ (by decide)⟩ : Fin 8) j) = _
  rw [pointRows_at, bias_window _ _ _ r hr, block0, block2]
  simp only [block1 m c _ _ _ _ r hr]
  rfl

/-- What the kernel leaves in its result array: the network of its arguments. -/
theorem result_at (c : Dev nD) (r : Fin 128) (j : Fin 512) : result m c t0_15 (ix2 r j) =
    network (fun k => m ((c : Thread nD τ).loc main_arg0) (ix2 0 k)) (fun r j k => m ((c : Thread nD τ).loc main_arg1) (ix3 r j k))
      (fun r j => m ((c : Thread nD τ).loc main_arg2) (ix2 r j))
      (fun a k => m ((c : Thread nD τ).loc main_arg3) (ix2 a k)) (fun a => m ((c : Thread nD τ).loc main_arg4) (ix1 a))
      (fun a k => m ((c : Thread nD τ).loc main_arg5) (ix2 a k)) (fun a => m ((c : Thread nD τ).loc main_arg6) (ix1 a))
      (fun a => m ((c : Thread nD τ).loc main_arg7) (ix1 a)) (fun a => m ((c : Thread nD τ).loc main_arg8) (ix1 a))
      (fun a k => m ((c : Thread nD τ).loc main_arg9) (ix2 a k)) (fun a => m ((c : Thread nD τ).loc main_arg10) (ix1 a))
      (fun a k => m ((c : Thread nD τ).loc main_arg11) (ix2 a k)) (fun a => m ((c : Thread nD τ).loc main_arg12) (ix1 a))
      (fun a => m ((c : Thread nD τ).loc main_arg13) (ix1 a)) (fun a => m ((c : Thread nD τ).loc main_arg14) (ix1 a)) r j := by
  unfold result network
  rw [tail_at]
  simp only [block3, block4, block5, block6, block7, block8, block9, block10, block11, block12, block13, block14, children_at]

end Cert.KernelIdeal.Body
-- ==== Proof.Edges.lean ====
module

public import proofs.«01_k».proof.Proof.Layers
public import proofs.«01_k».proof.Proof.Gen.ReferenceIdeal.Read
public import Idealize.ShloMosaic.Lib.Routing.Ops

/-! What a row gather and an accumulating row scatter over the graph's edges come to, when edge `e` goes from node `e / 127`
to node `e % 127 + 1`: each node but the first receives the sum of all rows. -/

@[expose] public section

set_option maxRecDepth 16384

noncomputable section

namespace Cert.ReferenceIdeal.Edges

open Cert.ReferenceIdeal Cert.ReferenceIdeal.Gen
open Idealize.ShloMosaic Idealize.ShloMosaic.TcCoe

/-- The node that an edge leaves. -/
def source (e : Fin 16256) : Fin 128 := ⟨e.val / 127, by omega⟩

/-- The node that an edge reaches. -/
def target (e : Fin 16256) : Fin 128 := ⟨e.val % 127 + 1, by omega⟩

/-- Over all edges into one node, the values at the edges' sources add up to nothing for the first node and to the sum over all nodes for
every other: the edges into a node number one per source. -/
theorem sum_edges (f : Fin 128 → EReal) (r : Fin 128) :
    (∑ e : Fin 16256, if target e = r then f (source e) else 0) = if r.val = 0 then 0 else ∑ q, f q := by
  rw [← (finProdFinEquiv : Fin 128 × Fin 127 ≃ Fin (128 * 127)).sum_comp (fun e : Fin 16256 => if target e = r then f (source e) else 0),
    Fintype.sum_prod_type]
  have hs : ∀ (q : Fin 128) (k : Fin 127), source (finProdFinEquiv (q, k)) = q := fun q k => Fin.ext (by
    show (k.val + 127 * q.val) / 127 = q.val; omega)
  have ht : ∀ (q : Fin 128) (k : Fin 127), (target (finProdFinEquiv (q, k))).val = k.val + 1 := fun q k => by
    show (k.val + 127 * q.val) % 127 + 1 = k.val + 1; omega
  split
  · next h0 =>
    refine Finset.sum_eq_zero fun q _ => Finset.sum_eq_zero fun k _ => if_neg fun e => ?_
    have := congrArg Fin.val e
    rw [ht] at this; omega
  · next h0 =>
    refine Finset.sum_congr rfl fun q _ => ?_
    have hk : ∀ k : Fin 127, target (finProdFinEquiv (q, k)) = r ↔ k = ⟨r.val - 1, by omega⟩ := fun k => by
      rw [Fin.ext_iff, ht, Fin.ext_iff]
      show k.val + 1 = r.val ↔ k.val = r.val - 1; omega
    simp only [hs, hk, Finset.sum_ite_eq', Finset.mem_univ, if_true]

/-- The scatter's window starts at the row that the edge's word names. -/
theorem start_row (idx : IVec S16256x1 32) (e : Fin 16256) (k : Fin 512) :
    scatter_S128x512_S16256x1_S16256x512_1_0_0_1.start (ix2 e k) idx 0 = (idx (ix2 e 0)).toInt := by
  unfold ScatterDims.start
  rw [dif_pos (by decide)]
  refine congrArg (fun i => (idx i).toInt) (funext fun a => Fin.ext ?_)
  match a with
  | ⟨0, _⟩ => rfl
  | ⟨1, _⟩ => rfl

/-- Update `(e, k)` lands at `(r, j)` exactly when edge `e`'s word is `r` and `k` is `j`. -/
theorem lands (idx : IVec S16256x1 32) (e : Fin 16256) (k : Fin 512) (r : Fin 128) (j : Fin 512) :
    scatter_S128x512_S16256x1_S16256x512_1_0_0_1.resultIdx? (ix2 e k) idx = some (ix2 r j) ↔ (idx (ix2 e 0)).toInt = r.val ∧ k = j := by
  have h0 := start_row idx e k
  have h1 : scatter_S128x512_S16256x1_S16256x512_1_0_0_1.start (ix2 e k) idx 1 = 0 := by
    unfold ScatterDims.start; rw [dif_neg (by decide)]
  have w0 : scatter_S128x512_S16256x1_S16256x512_1_0_0_1.window (ix2 e k) 0 = 0 := by
    unfold ScatterDims.window; rw [dif_neg (by decide)]
  have w1 : scatter_S128x512_S16256x1_S16256x512_1_0_0_1.window (ix2 e k) 1 = k.val := by
    unfold ScatterDims.window; rw [dif_pos (by decide)]; rfl
  generalize scatter_S128x512_S16256x1_S16256x512_1_0_0_1 = d at *
  unfold ScatterDims.resultIdx?
  have hr := r.isLt
  have hk := k.isLt
  constructor
  · intro h
    split at h
    · next hb =>
      have e0 := congrArg Fin.val (congrFun (Option.some.inj h) 0)
      have e1 := congrArg Fin.val (congrFun (Option.some.inj h) 1)
      have b0 := (hb 0).1
      rw [h0, w0] at b0
      change (d.start (ix2 e k) idx 0 + (d.window (ix2 e k) 0 : ℤ)).toNat = r.val at e0
      change (d.start (ix2 e k) idx 1 + (d.window (ix2 e k) 1 : ℤ)).toNat = j.val at e1
      rw [h0, w0] at e0
      rw [h1, w1] at e1
      exact ⟨by omega, Fin.ext (by omega)⟩
    · cases h
  · rintro ⟨h, rfl⟩
    rw [dif_pos]
    · refine congrArg some (funext fun a => Fin.ext ?_)
      match a with
      | ⟨0, _⟩ =>
        show (d.start (ix2 e k) idx 0 + (d.window (ix2 e k) 0 : ℤ)).toNat = r.val
        rw [h0, w0]; omega
      | ⟨1, _⟩ =>
        show (d.start (ix2 e k) idx 1 + (d.window (ix2 e k) 1 : ℤ)).toNat = k.val
        rw [h1, w1]; omega
    · intro a
      match a with
      | ⟨0, _⟩ =>
        show 0 ≤ d.start (ix2 e k) idx 0 + (d.window (ix2 e k) 0 : ℤ) ∧ d.start (ix2 e k) idx 0 + (d.window (ix2 e k) 0 : ℤ) < (128 : ℤ)
        rw [h0, w0]; omega
      | ⟨1, _⟩ =>
        show 0 ≤ d.start (ix2 e k) idx 1 + (d.window (ix2 e k) 1 : ℤ) ∧ d.start (ix2 e k) idx 1 + (d.window (ix2 e k) 1 : ℤ) < (512 : ℤ)
        rw [h1, w1]; omega

/-- Edge `e` goes from node `e / 127` to node `e % 127 + 1`. -/
def Complete (x15 : IVec S2x16256 32) : Prop :=
  ∀ e : Fin 16256, x15 (ix2 0 e) = BitVec.ofNat 32 (source e).val ∧ x15 (ix2 1 e) = BitVec.ofNat 32 (target e).val

/-- The source words as the gather takes them: a negative one would be moved up by the number of nodes, and none is. -/
theorem source_word (x15 : IVec S2x16256 32) (h : Complete x15) (e : Fin 16256) :
    Read.val_main_v13 (F := Ideal) x15 (ix2 e 0) = BitVec.ofNat 32 (source e).val := by
  have hq : ∀ q : Fin 128, Scalar.select (IntOp.cmpi .slt (BitVec.ofNat 32 q.val) 0#32) (IntOp.addi (BitVec.ofNat 32 q.val) 128#32) (BitVec.ofNat 32 q.val)
      = BitVec.ofNat 32 q.val := by decide +kernel
  rw [← hq (source e), ← (h e).1]
  pointwise [Read.val_main_v13, Read.val_main_v12, Read.val_main_v11, Read.val_main_v10, Read.val_main_v9, Read.val_main_v8, Read.val_main_v5, Read.val_main_v4,
    Read.val_main_c, Read.val_main_c_0]

/-- The target words as the scatter takes them. -/
theorem target_word (x15 : IVec S2x16256 32) (h : Complete x15) (e : Fin 16256) :
    Read.val_main_v16 (F := Ideal) x15 (ix2 e 0) = BitVec.ofNat 32 (target e).val := by
  rw [← (h e).2]
  pointwise [Read.val_main_v16, Read.val_main_v7, Read.val_main_v6]

/-- The rows with what they receive over the edges. -/
def received (x15 : IVec S2x16256 32) (x : FVec Ideal S128x512 .f32) : FVec Ideal S128x512 .f32 :=
  addf x (Host.scatterAdd scatter_S128x512_S16256x1_S16256x512_1_0_0_1 (Read.val_main_v15 (F := Ideal)) (Read.val_main_v16 (F := Ideal) x15)
    (Host.gather gather_S128x512_S16256x1_S16256x512_1_0_n_n_0_1_1512 x (Read.val_main_v13 (F := Ideal) x15)))

/-- Over the complete graph every row but the first receives the sum of all rows. -/
theorem received_at (x15 : IVec S2x16256 32) (h : Complete x15) (x : FVec Ideal S128x512 .f32) (r : Fin 128) (j : Fin 512) :
    received x15 x (ix2 r j) = Cert.Graph.gather (fun q a => x (ix2 q a)) r j := by
  show x (ix2 r j) + Ideal.hostScatterAdd _ _ _ _ (ix2 r j) = x (ix2 r j) + _
  congr 1
  unfold Ideal.hostScatterAdd
  rw [← sum_edges (fun q => x (ix2 q j)) r, Finset.sum_filter, ValueIdx.sum_idx2]
  have hz : Read.val_main_v15 (F := Ideal) (ix2 r j) = 0 := by pointwise [Read.val_main_v15, Read.val_main_cst]
  rw [hz, zero_add]
  refine Finset.sum_congr rfl fun e _ => ?_
  have hw : ((Read.val_main_v16 (F := Ideal) x15 (ix2 e 0)).toInt = r.val) ↔ target e = r := by
    have ht : ∀ q : Fin 128, (BitVec.ofNat 32 q.val).toInt = q.val := by decide +kernel
    rw [target_word x15 h, ht, Fin.ext_iff]; omega
  have hg : ∀ k : Fin 512, Host.gather gather_S128x512_S16256x1_S16256x512_1_0_n_n_0_1_1512 x (Read.val_main_v13 (F := Ideal) x15) (ix2 e k) = x (ix2 (source e) k) := fun k =>
    Routing.gather_row gather_S128x512_S16256x1_S16256x512_1_0_n_n_0_1_1512 rfl rfl rfl rfl rfl x _ e k (source e) (source_word x15 h e) (by decide)
  have hl : ∀ k : Fin 512, (scatter_S128x512_S16256x1_S16256x512_1_0_0_1.resultIdx? (ix2 e k) (Read.val_main_v16 (F := Ideal) x15) = some (ix2 r j)) ↔ target e = r ∧ k = j := fun k => by
    rw [lands, hw]
  calc _ = ∑ k : Fin 512, if target e = r ∧ k = j then x (ix2 (source e) k) else 0 :=
        Finset.sum_congr rfl fun k _ => by
          rw [← hg k]
          exact if_congr (hl k) rfl rfl
    _ = _ := by
        by_cases ht : target e = r
        · simp [ht]
        · simp [ht]

end Cert.ReferenceIdeal.Edges
-- ==== Proof.Complete.lean ====
module

public import proofs.«01_k».proof.Proof.Edges
public import proofs.«01_k».proof.Proof.Gen.Pre_complete_graph
public import Idealize.ShloMosaic.Lib.ReduceAll

/-! The precondition read: the edge table lists, source by source, one edge from the node to every node but the first. -/

@[expose] public section

set_option maxRecDepth 16384

noncomputable section

namespace Cert.Pre_complete_graph.Meaning

open Cert.Pre_complete_graph Cert.Pre_complete_graph.Gen
open Idealize.ShloMosaic Idealize.ShloMosaic.TcCoe

/-- The printed sign of a word. -/
def signWord (w : BitVec 32) : BitVec 32 := if w = 0 then 0 else if w.msb = true then -1 else 1

/-- The printed floor division of a word by 127, with its correction for a quotient of unlike signs. -/
def floorWord (w : BitVec 32) : BitVec 32 :=
  Scalar.select
    (IntOp.andi (IntOp.cmpi .ne (signWord w) (signWord 127#32))
      (IntOp.cmpi .ne (IntOp.remsi .host w 127#32) 0#32))
    (IntOp.subi (IntOp.divsi .host w 127#32) 1#32) (IntOp.divsi .host w 127#32)

/-- The divisor that the printed remainder divides by: one in place of zero. -/
def divisor : BitVec 32 := Scalar.select (IntOp.cmpi .eq (127#32) 0#32) (1#32) (127#32)

/-- The printed remainder of a word by 127, with its correction for a remainder of the other sign. -/
def remainderWord (w : BitVec 32) : BitVec 32 :=
  Scalar.select
    (IntOp.andi (IntOp.cmpi .ne (IntOp.cmpi .slt (IntOp.remsi .host w divisor) 0#32) (IntOp.cmpi .slt divisor 0#32))
      (IntOp.cmpi .ne (IntOp.remsi .host w divisor) 0#32))
    (IntOp.addi (IntOp.remsi .host w divisor) divisor) (IntOp.remsi .host w divisor)

/-- Both words, at every edge number written as 127 times a quotient plus a remainder. -/
theorem words : ∀ (q : Fin 128) (k : Fin 127), floorWord (BitVec.ofNat 32 (127 * q.val + k.val)) = BitVec.ofNat 32 q.val ∧
    remainderWord (BitVec.ofNat 32 (127 * q.val + k.val)) = BitVec.ofNat 32 k.val := by decide +kernel

/-- Both words at an edge number. -/
theorem words_at (e : Fin 16256) : floorWord (BitVec.ofNat 32 e.val) = BitVec.ofNat 32 (e.val / 127) ∧
    remainderWord (BitVec.ofNat 32 e.val) = BitVec.ofNat 32 (e.val % 127) := by
  have h := words ⟨e.val / 127, by omega⟩ ⟨e.val % 127, by omega⟩
  have he : 127 * (e.val / 127) + e.val % 127 = e.val := by omega
  simp only [he] at h
  exact h

/-- The printed floor division of the edge numbers by 127. -/
theorem floor_at (e : Fin 16256) : fn_floor_divide (F := Ideal) (iotaInDim S16256 32 0) (constantI S_ 32 127#32) (ix1 e) = BitVec.ofNat 32 (e.val / 127) := by
  rw [← (words_at e).1]
  pointwise [fn_floor_divide, fn_where]
  rfl

/-- The printed remainder of the edge numbers by 127. -/
theorem remainder_at (e : Fin 16256) : fn_remainder (F := Ideal) (iotaInDim S16256 32 0) (constantI S_ 32 127#32) (ix1 e) = BitVec.ofNat 32 (e.val % 127) := by
  rw [← (words_at e).2]
  pointwise [fn_remainder, fn_where_0]
  rfl

/-- An edge table that meets the precondition is that of the complete graph. -/
theorem complete (x0 x1 x2 x3 x4 x5 x6 x7 x8 x9 x10 x11 x12 x13 x14 x15)
    (h : fn (F := Ideal) x0 x1 x2 x3 x4 x5 x6 x7 x8 x9 x10 x11 x12 x13 x14 x15 = fun _ => 1#1) : Cert.ReferenceIdeal.Edges.Complete x15 := by
  have h := congrFun h (fun a => a.elim0)
  dsimp only [fn] at h
  obtain ⟨hs, ht⟩ := IntOp.andi_eq_one.mp h
  intro e
  have : Subsingleton S_.Idx := ⟨fun a b => funext fun i => i.elim0⟩
  have hs := IntOp.cmpi_eq.mp (Host.reduce_andi_all _ _ _ _ _ hs (ix1 e))
  have ht := IntOp.cmpi_eq.mp (Host.reduce_andi_all _ _ _ _ _ ht (ix1 e))
  rw [floor_at] at hs
  change _ = IntOp.addi (fn_remainder (F := Ideal) (iotaInDim S16256 32 0) (constantI S_ 32 127#32) (ix1 e)) 1#32 at ht
  rw [remainder_at] at ht
  have hk : ∀ k : Fin 127, IntOp.addi (BitVec.ofNat 32 k.val) 1#32 = BitVec.ofNat 32 (k.val + 1) := by decide +kernel
  refine ⟨Eq.trans ?_ hs, Eq.trans ?_ (ht.trans (hk ⟨e.val % 127, by omega⟩))⟩
  · pointwise []
  · pointwise []

end Cert.Pre_complete_graph.Meaning
-- ==== Proof.Reference.lean ====
module

public import proofs.«01_k».proof.Proof.Edges

/-! What the reference's result is, entry by entry, over the extended reals: the network of the program's arguments. The two graph layers are
the same operations on different arguments, so each stretch of a layer is named and read once. -/

@[expose] public section

set_option maxRecDepth 16384

noncomputable section

namespace Cert.ReferenceIdeal.Layer

open Cert.ReferenceIdeal Cert.ReferenceIdeal.Gen Cert.ReferenceIdeal.Read Cert.ReferenceIdeal.Edges
open Idealize.ShloMosaic Idealize.ShloMosaic.TcCoe
open Cert.Graph (Table)

/-- A bias, a scale or a shift over every row. -/
def overRows (b : FVec Ideal S512 .f32) : FVec Ideal S128x512 .f32 :=
  broadcastInDim S128x512 ![0, 1] bcast_S1x512_S128x512_0_1 (broadcastInDim S1x512 ![1] bcast_S512_S1x512_1 b)

/-- A matrix and a bias applied to every row. -/
def dense (W : FVec Ideal S512x512 .f32) (b : FVec Ideal S512 .f32) (x : FVec Ideal S128x512 .f32) : FVec Ideal S128x512 .f32 :=
  addf (Host.dotGeneral dot_S128x512_S512x512_S128x512_1_0_0_1_n_n none x (transpose S512x512 [1, 0] W transposes_S512x512_S512x512_1_0)) (overRows b)

/-- The cut at zero. -/
def cut (x : FVec Ideal S128x512 .f32) : FVec Ideal S128x512 .f32 := maximumf x (val_main_call1_v0 (F := Ideal))

/-- The columns' means. -/
def means (x : FVec Ideal S128x512 .f32) : FVec Ideal S512 .f32 :=
  Host.divf (Host.reduceAdd x (val_main_cst_1 (F := Ideal)) reducesTo_S128x512_S512_d0 h_S_) (val_main_v32 (F := Ideal))

/-- The deviations that the variance squares; it makes the means as one row. -/
def spread (x : FVec Ideal S128x512 .f32) : FVec Ideal S128x512 .f32 :=
  subf x (broadcastInDim S128x512 ![0, 1] bcast_S1x512_S128x512_0_1
    (Host.divf (broadcastInDim S1x512 ![1] bcast_S512_S1x512_1 (Host.reduceAdd x (val_main_call3_cst (F := Ideal)) reducesTo_S128x512_S512_d0 h_S_))
      (val_main_call3_v2 (F := Ideal))))

/-- The columns' variances; not a number if the divisor, the row count less zero, were not above zero. -/
def variances (x : FVec Ideal S128x512 .f32) : FVec Ideal S512 .f32 :=
  select (broadcastInDim S512 ![] bcast_S_S512 (val_main_call3_v12 (F := Ideal)))
    (Host.divf (Host.reduceAdd (mulf (spread x) (spread x)) (val_main_call3_cst_2 (F := Ideal)) reducesTo_S128x512_S512_d0 h_S_) (val_main_call3_v10 (F := Ideal)))
    (val_main_call3_call0_v1 (F := Ideal))

/-- The normalization. -/
def normed (g be : FVec Ideal S512 .f32) (x : FVec Ideal S128x512 .f32) : FVec Ideal S128x512 .f32 :=
  addf (mulf (Host.divf (subf x (overRows (means x))) (overRows (Host.sqrt (addf (variances x) (val_main_v38 (F := Ideal)))))) (overRows g)) (overRows be)

/-- A graph layer. -/
def graphLayer (x15 : IVec S2x16256 32) (W : FVec Ideal S512x512 .f32) (b : FVec Ideal S512 .f32) (W' : FVec Ideal S512x512 .f32) (b' g be : FVec Ideal S512 .f32)
    (x : FVec Ideal S128x512 .f32) : FVec Ideal S128x512 .f32 :=
  normed g be (cut (dense W' b' (cut (dense W b (received x15 x)))))

/-- A matrix and a bias applied to every row, entry by entry. -/
theorem dense_at (W b x) (r : Fin 128) (j : Fin 512) :
    dense W b x (ix2 r j) = Cert.Graph.affine (fun a k => W (ix2 a k)) (fun a => b (ix1 a)) (fun q a => x (ix2 q a)) r j := by
  pointwise [dense, overRows]
  rfl

/-- The cut at zero, entry by entry. -/
theorem cut_at (x) (r : Fin 128) (j : Fin 512) : cut x (ix2 r j) = Cert.Graph.pos (fun q a => x (ix2 q a)) r j := by
  pointwise [cut, val_main_call1_v0, val_main_call1_cst]
  rfl

/-- The means, column by column. -/
theorem means_at (x) (j : Fin 512) : means x (ix1 j) = Cert.Graph.mean (fun q a => x (ix2 q a)) j := by
  pointwise [means, val_main_cst_1, val_main_v32, val_main_cst_2]
  rfl

/-- The squared deviations are those from the mean. -/
theorem spread_at (x) (r : Fin 128) (j : Fin 512) : spread x (ix2 r j) = Cert.Graph.dev (fun q a => x (ix2 q a)) r j := by
  pointwise [spread, val_main_call3_cst, val_main_call3_v2, val_main_call3_cst_0]
  rfl

/-- The variance's divisor, the row count less zero, is the row count. -/
theorem divisor_eq : val_main_call3_v8 (F := Ideal) ix0 = Cert.Graph.rows := by
  pointwise [val_main_call3_v8, val_main_call3_cst_1, val_main_call3_v7, val_main_c_3]
  show Cert.Graph.rows - (((0#32 : BitVec 32).toInt : ℝ) : EReal) = _
  simp

/-- The variances, column by column: the divisor is above zero. -/
theorem variances_at (x) (j : Fin 512) : variances x (ix1 j) = Cert.Graph.variance (fun q a => x (ix2 q a)) j := by
  have h : 0 < Cert.Graph.rows := by rw [Cert.Graph.rows_eq]; exact_mod_cast (by norm_num : (0 : ℝ) < 128)
  pointwise [variances, val_main_call3_v12, val_main_call3_v10, val_main_call3_cst_2, val_main_call3_call0_v1, val_main_call3_cst_3]
  simp only [spread_at, divisor_eq, h, if_true]
  rfl

/-- The normalization, entry by entry. -/
theorem normed_at (g be x) (r : Fin 128) (j : Fin 512) : normed g be x (ix2 r j) =
    Cert.Graph.standardize (fun a => g (ix1 a)) (fun a => be (ix1 a)) (fun q a => x (ix2 q a)) r j := by
  pointwise [normed, overRows, val_main_v38, val_main_cst_4]
  rw [means_at, variances_at]
  rfl

/-- A graph layer over the complete graph, entry by entry. -/
theorem graphLayer_at (x15 : IVec S2x16256 32) (h : Complete x15) (W b W' b' g be x) (r : Fin 128) (j : Fin 512) :
    graphLayer x15 W b W' b' g be x (ix2 r j) =
      Cert.Graph.layer (fun a k => W (ix2 a k)) (fun a => b (ix1 a)) (fun a k => W' (ix2 a k)) (fun a => b' (ix1 a)) (fun a => g (ix1 a)) (fun a => be (ix1 a))
        (fun q a => x (ix2 q a)) r j := by
  unfold graphLayer
  rw [normed_at]
  simp only [cut_at, dense_at, received_at x15 h]
  rfl

/-- The children, entry by entry. -/
theorem children_at (x0 x1 x2) (r : Fin 128) (j : Fin 512) : val_main_v3 (F := Ideal) x0 x1 x2 (ix2 r j) =
    Cert.Graph.children (fun k => x0 (ix2 0 k)) (fun r j k => x1 (ix3 r j k)) (fun r j => x2 (ix2 r j)) r j := by
  pointwise [val_main_v3, val_main_v2, val_main_v1, val_main_v0, val_main_call0_v0, val_main_call0_cst]
  rfl

/-- The first layer's result is the named layer of the children. -/
theorem first_layer (x0 x1 x2 x3 x4 x5 x6 x7 x8 x15) : val_main_v49 (F := Ideal) x0 x1 x2 x3 x4 x5 x6 x7 x8 x15 =
    graphLayer x15 x3 x4 x5 x6 x7 x8 (val_main_v3 (F := Ideal) x0 x1 x2) := rfl

/-- The result is the named layer of the first layer's result. -/
theorem second_layer (x0 x1 x2 x3 x4 x5 x6 x7 x8 x9 x10 x11 x12 x13 x14 x15) :
    val_main_v91 (F := Ideal) x0 x1 x2 x3 x4 x5 x6 x7 x8 x9 x10 x11 x12 x13 x14 x15 =
      graphLayer x15 x9 x10 x11 x12 x13 x14 (val_main_v49 (F := Ideal) x0 x1 x2 x3 x4 x5 x6 x7 x8 x15) := rfl

/-- What the reference leaves in its result: the network of its arguments. -/
theorem result_at (x0 x1 x2 x3 x4 x5 x6 x7 x8 x9 x10 x11 x12 x13 x14 x15) (h : Complete x15) (r : Fin 128) (j : Fin 512) :
    val_main_v91 (F := Ideal) x0 x1 x2 x3 x4 x5 x6 x7 x8 x9 x10 x11 x12 x13 x14 x15 (ix2 r j) =
      Cert.Graph.network (fun k => x0 (ix2 0 k)) (fun r j k => x1 (ix3 r j k)) (fun r j => x2 (ix2 r j))
        (fun a k => x3 (ix2 a k)) (fun a => x4 (ix1 a)) (fun a k => x5 (ix2 a k)) (fun a => x6 (ix1 a)) (fun a => x7 (ix1 a)) (fun a => x8 (ix1 a))
        (fun a k => x9 (ix2 a k)) (fun a => x10 (ix1 a)) (fun a k => x11 (ix2 a k)) (fun a => x12 (ix1 a)) (fun a => x13 (ix1 a)) (fun a => x14 (ix1 a)) r j := by
  rw [second_layer, first_layer, graphLayer_at x15 h]
  simp only [graphLayer_at x15 h, children_at]
  rfl

end Cert.ReferenceIdeal.Layer
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_complete_graph
public import proofs.«01_k».proof.Proof.KernelFrame
public import proofs.«01_k».proof.Proof.KernelValue
public import proofs.«01_k».proof.Proof.Complete
public import proofs.«01_k».proof.Proof.Reference
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- If the reference's arguments are the kernel's and the edge table is that of the complete graph, the reference's result is the array the kernel
    leaves after its last grid step. -/
theorem results_eq (m : (ℓ : Loc Cert.KernelIdeal.nD Cert.KernelIdeal.τ Cert.KernelIdeal.sig) → Buf (Elt Ideal) ℓ) (c : Dev Cert.KernelIdeal.nD)
    (x0 x1 x2 x3 x4 x5 x6 x7 x8 x9 x10 x11 x12 x13 x14 x15)
    (h : x0 = m ((c.tc : Thread Cert.KernelIdeal.nD Cert.KernelIdeal.τ).loc Cert.KernelIdeal.main_arg0)
      ∧ x1 = m ((c.tc : Thread Cert.KernelIdeal.nD Cert.KernelIdeal.τ).loc Cert.KernelIdeal.main_arg1)
      ∧ x2 = m ((c.tc : Thread Cert.KernelIdeal.nD Cert.KernelIdeal.τ).loc Cert.KernelIdeal.main_arg2)
      ∧ x3 = m ((c.tc : Thread Cert.KernelIdeal.nD Cert.KernelIdeal.τ).loc Cert.KernelIdeal.main_arg3)
      ∧ x4 = m ((c.tc : Thread Cert.KernelIdeal.nD Cert.KernelIdeal.τ).loc Cert.KernelIdeal.main_arg4)
      ∧ x5 = m ((c.tc : Thread Cert.KernelIdeal.nD Cert.KernelIdeal.τ).loc Cert.KernelIdeal.main_arg5)
      ∧ x6 = m ((c.tc : Thread Cert.KernelIdeal.nD Cert.KernelIdeal.τ).loc Cert.KernelIdeal.main_arg6)
      ∧ x7 = m ((c.tc : Thread Cert.KernelIdeal.nD Cert.KernelIdeal.τ).loc Cert.KernelIdeal.main_arg7)
      ∧ x8 = m ((c.tc : Thread Cert.KernelIdeal.nD Cert.KernelIdeal.τ).loc Cert.KernelIdeal.main_arg8)
      ∧ x9 = m ((c.tc : Thread Cert.KernelIdeal.nD Cert.KernelIdeal.τ).loc Cert.KernelIdeal.main_arg9)
      ∧ x10 = m ((c.tc : Thread Cert.KernelIdeal.nD Cert.KernelIdeal.τ).loc Cert.KernelIdeal.main_arg10)
      ∧ x11 = m ((c.tc : Thread Cert.KernelIdeal.nD Cert.KernelIdeal.τ).loc Cert.KernelIdeal.main_arg11)
      ∧ x12 = m ((c.tc : Thread Cert.KernelIdeal.nD Cert.KernelIdeal.τ).loc Cert.KernelIdeal.main_arg12)
      ∧ x13 = m ((c.tc : Thread Cert.KernelIdeal.nD Cert.KernelIdeal.τ).loc Cert.KernelIdeal.main_arg13)
      ∧ x14 = m ((c.tc : Thread Cert.KernelIdeal.nD Cert.KernelIdeal.τ).loc Cert.KernelIdeal.main_arg14)
      ∧ x15 = m ((c.tc : Thread Cert.KernelIdeal.nD Cert.KernelIdeal.τ).loc Cert.KernelIdeal.main_arg15))
    (hc : Cert.ReferenceIdeal.Edges.Complete (m ((c.tc : Thread Cert.KernelIdeal.nD Cert.KernelIdeal.τ).loc Cert.KernelIdeal.main_arg15))) :
    Cert.ReferenceIdeal.Read.val_main_v91 (F := Ideal) x0 x1 x2 x3 x4 x5 x6 x7 x8 x9 x10 x11 x12 x13 x14 x15
    = Cert.KernelIdeal.Body.result m c Cert.KernelIdeal.Gen.t0_15 := by
  obtain ⟨rfl, rfl, rfl, rfl, rfl, rfl, rfl, rfl, rfl, rfl, rfl, rfl, rfl, rfl, rfl, rfl⟩ := h
  funext y
  idx_vars y
  exact (Cert.ReferenceIdeal.Layer.result_at _ _ _ _ _ _ _ _ _ _ _ _ _ _ _ _ hc y0 y1).trans (Cert.KernelIdeal.Body.result_at m c y0 y1).symm

/-- The whole claim: the kernel, its idealization and the reference each run to the end with their arguments unchanged and every counter zero,
    and on the complete graph the idealized kernel and the reference end with equal results, as extended reals, element by element. -/
theorem claim : Cert.Claim := by
  have reference_frame := fun (m : (ℓ : Loc Cert.ReferenceIdeal.nD Cert.ReferenceIdeal.τ Cert.ReferenceIdeal.sig) → Buf (Elt Ideal) ℓ) (g : Dev Cert.ReferenceIdeal.nD → PrngReg) =>
    θ_run_mono (Cert.ReferenceIdeal.Value.run m g) fun r h => And.intro (fun c => (h c).2) (sem_eq_zero_of_no_sems (by decide) r.2)
  have kernel_frame := fun (F : FTy → Type) [FloatOps F] (m : (ℓ : Loc Cert.KernelIdeal.nD Cert.KernelIdeal.τ Cert.KernelIdeal.sig) → Buf (Elt F) ℓ) (g : Dev Cert.KernelIdeal.nD → PrngReg) =>
    have run := Cert.KernelIdeal.Body.run_post m g
    θ_run_and (Cert.KernelIdeal.Gen.frame_of m g (Cert.KernelIdeal.Body.dats m) (Cert.KernelIdeal.Body.A_eq m) (θ_run_mono run fun _ h => h.1))
      (θ_run_mono run fun _ h => h.2)
  refine ⟨Cert.Kernel.Gen.facts, Cert.KernelIdeal.Gen.facts, Cert.ReferenceIdeal.Gen.facts, Cert.Pre_complete_graph.Gen.facts,
    fun m g _ => Cert.Kernel.Same.run_of m g _ (kernel_frame Bits m g), fun m g _ => kernel_frame Ideal m g, fun m g _ => kernel_frame Ideal m g,
    fun m g _ => reference_frame m g, fun m g _ => reference_frame m g, trivial, ?_⟩
  · intro m g m' g' hpre hagree
    refine ⟨fun c => Cert.KernelIdeal.Body.result m c Cert.KernelIdeal.Gen.t0_15,
      θ_run_mono (θ_run_and (Cert.KernelIdeal.Body.value_run m g) (kernel_frame Ideal m g)) fun r h c => ⟨h.1.1 c, h.2.1 c⟩, ?_⟩
    refine θ_run_mono (Cert.ReferenceIdeal.Value.run m' g') fun r h c => ⟨(h c).1.trans ?_, (h c).2⟩
    refine (Cert.ReferenceIdeal.Read.val_main_v91_eq (StableHlo.launchContents m' c)).trans ?_
    exact results_eq m c _ _ _ _ _ _ _ _ _ _ _ _ _ _ _ _ (hagree c)
      (Cert.Pre_complete_graph.Meaning.complete _ _ _ _ _ _ _ _ _ _ _ _ _ _ _ _ (hpre c))

end Cert.Proof

end
